-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v13) = v0 c
          ∧ r.2.mem ((c.tc : Thread Cert.ProjReferenceIdeal.nD Cert.ProjReferenceIdeal.τ).loc Cert.ProjReferenceIdeal.main_v14) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v34) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_Rwkv_RwkvIdeal : Prop :=
  True

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hFfn : Cert.Ffn.Facts) (hFfnIdeal : Cert.FfnIdeal.Facts) (hFfnReferenceIdeal : Cert.FfnReferenceIdeal.Facts) (hRwkv : Cert.Rwkv.Facts) (hRwkvIdeal : Cert.RwkvIdeal.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Rwkv (hRwkv := hRwkv)
    ∧ quiescent_RwkvIdeal (hRwkvIdeal := hRwkvIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjReferenceIdeal (hProjIdeal := hProjIdeal) (hProjReferenceIdeal := hProjReferenceIdeal)
    ∧ preserves_Ffn_FfnIdeal
    ∧ algebraic_FfnIdeal_FfnReferenceIdeal (hFfnIdeal := hFfnIdeal) (hFfnReferenceIdeal := hFfnReferenceIdeal)
    ∧ preserves_Rwkv_RwkvIdeal
-- ==== Kernel.lean ====
abbrev S4x8192x2048 : Shape := ⟨3, ![4, 8192, 2048]⟩
abbrev S2x512 : Shape := ⟨2, ![2, 512]⟩
abbrev S1x512 : Shape := ⟨2, ![1, 512]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S4x8192x512 : Shape := ⟨3, ![4, 8192, 512]⟩
abbrev S1x256x2048 : Shape := ⟨3, ![1, 256, 2048]⟩
abbrev S1x256x512 : Shape := ⟨3, ![1, 256, 512]⟩
abbrev S4x128x128 : Shape := ⟨3, ![4, 128, 128]⟩
abbrev S256x512 : Shape := ⟨2, ![256, 512]⟩
abbrev S64x512 : Shape := ⟨2, ![64, 512]⟩
abbrev S64x128 : Shape := ⟨2, ![64, 128]⟩
abbrev S1x128 : Shape := ⟨2, ![1, 128]⟩
abbrev S128x64 : Shape := ⟨2, ![128, 64]⟩
abbrev S128x128 : Shape := ⟨2, ![128, 128]⟩
abbrev S1x128x128 : Shape := ⟨3, ![1, 128, 128]⟩
abbrev S64 : Shape := ⟨1, ![64]⟩
abbrev S64x1 : Shape := ⟨2, ![64, 1]⟩

abbrev nBuf : Space → Nat
  | .hbm => 28
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S2x512, .f32⟩
  | .hbm, ⟨2, _⟩ => ⟨S1x512, .f32⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .bf16⟩
  | .hbm, ⟨10, _⟩ => ⟨S_, .bf16⟩
  | .hbm, ⟨11, _⟩ => ⟨S64x64, .bf16⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S_, .bf16⟩
  | .hbm, ⟨19, _⟩ => ⟨S64x64, .bf16⟩
  | .hbm, ⟨20, _⟩ => ⟨S64x64, .bf16⟩
  | .hbm, ⟨21, _⟩ => ⟨S4x1x4x1, .bf16⟩
  | .hbm, ⟨22, _⟩ => ⟨S1x64x1x64, .bf16⟩
  | .hbm, ⟨23, _⟩ => ⟨S4x64x4x64, .bf16⟩
  | .hbm, ⟨24, _⟩ => ⟨S4x64x4x64, .bf16⟩
  | .hbm, ⟨25, _⟩ => ⟨S4x64x4x64, .bf16⟩
  | .hbm, ⟨26, _⟩ => ⟨S256x256, .bf16⟩
  | .hbm, ⟨27, _⟩ => ⟨S4x8192x512, .bf16⟩
  | .local _ .vmem, ⟨0, _⟩ => ⟨S1x256x2048, .f32⟩
  | .local _ .vmem, ⟨1, _⟩ => ⟨S1x256x2048, .f32⟩
  | .local _ .vmem, ⟨2, _⟩ => ⟨S2x512, .f32⟩
  | .local _ .vmem, ⟨3, _⟩ => ⟨S1x512, .f32⟩
  | .local _ .vmem, ⟨4, _⟩ => ⟨S256x256, .bf16⟩
  | .local _ .vmem, ⟨5, _⟩ => ⟨S1x256x512, .bf16⟩
  | .local _ .vmem, ⟨6, _⟩ => ⟨S1x256x512, .bf16⟩
  | .local _ .vmem, ⟨7, _⟩ => ⟨S4x128x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_v7 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_v9 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x8192x2048 : Shape := ⟨3, ![4, 8192, 2048]⟩
abbrev S2x512 : Shape := ⟨2, ![2, 512]⟩
abbrev S1x512 : Shape := ⟨2, ![1, 512]⟩
abbrev S_ : Shape := ⟨0, ![]⟩
abbrev S512 : Shape := ⟨1, ![512]⟩
abbrev S4x8192x512 : Shape := ⟨3, ![4, 8192, 512]⟩
abbrev S1x1x512 : Shape := ⟨3, ![1, 1, 512]⟩
abbrev S4x128x64x4x128 : Shape := ⟨5, ![4, 128, 64, 4, 128]⟩
abbrev S128x4x4x64x128 : Shape := ⟨5, ![128, 4, 4, 64, 128]⟩
abbrev S128x4x4x1x128 : Shape := ⟨5, ![128, 4, 4, 1, 128]⟩
abbrev S128x4x4x64x64 : Shape := ⟨5, ![128, 4, 4, 64, 64]⟩
abbrev S64x64 : Shape := ⟨2, ![64, 64]⟩
abbrev S128x4x4x128x128 : Shape := ⟨5, ![128, 4, 4, 128, 128]⟩
abbrev S128x4x4x128 : Shape := ⟨4, ![128, 4, 4, 128]⟩
abbrev S4x4x128x128 : Shape := ⟨4, ![4, 4, 128, 128]⟩
abbrev S1x4x4x128 : Shape := ⟨4, ![1, 4, 4, 128]⟩
abbrev S4x4x128 : Shape := ⟨3, ![4, 4, 128]⟩
abbrev S1x4x4x128x128 : Shape := ⟨5, ![1, 4, 4, 128, 128]⟩
abbrev S1x4x4x64x128 : Shape := ⟨5, ![1, 4, 4, 64, 128]⟩
abbrev S4x4x64x128 : Shape := ⟨4, ![4, 4, 64, 128]⟩
abbrev S4x4x128x1 : Shape := ⟨4, ![4, 4, 128, 1]⟩
abbrev S128x4x4x64 : Shape := ⟨4, ![128, 4, 4, 64]⟩
abbrev S128x4x4x64x1 : Shape := ⟨5, ![128, 4, 4, 64, 1]⟩

abbrev nBuf : Space → Nat
  | .hbm => 181
  | .vmem => 0
  | .smem => 0
  | _ => 0

abbrev hbmTy0_0 (i : Nat) : BufTy := match i % 128 with
  | 0 => ⟨S4x8192x2048, .f32⟩
  | 1 => ⟨S2x512, .f32⟩
  | 2 => ⟨S1x512, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S1x512, .f32⟩
  | 18 => ⟨S512, .f32⟩
  | 19 => ⟨S4x8192x512, .f32⟩
  | 20 => ⟨S4x8192x512, .f32⟩
  | 21 => ⟨S4x8192x512, .f32⟩
  | 22 => ⟨S4x8192x512, .f32⟩
  | 23 => ⟨S4x8192x512, .f32⟩
  | 24 => ⟨S_, .f32⟩
  | 25 => ⟨S4x8192x512, .f32⟩
  | 26 => ⟨S4x8192x512, .f32⟩
  | 27 => ⟨S_, .f32⟩
  | 28 => ⟨S4x8192x512, .f32⟩
  | 29 => ⟨S4x8192x512, .f32⟩
  | 30 => ⟨S4x8192x512, .f32⟩
  | 31 => ⟨S_, .f32⟩
  | 32 => ⟨S512, .f32⟩
  | 33 => ⟨S512, .f32⟩
  | 34 => ⟨S4x8192x512, .f32⟩
  | 35 => ⟨S4x8192x512, .f32⟩
  | 36 => ⟨S_, .f32⟩
  | 37 => ⟨S4x8192x512, .f32⟩
  | 38 => ⟨S4x8192x512, .f32⟩
  | 39 => ⟨S_, .f32⟩
  | 40 => ⟨S4x8192x512, .f32⟩
  | 41 => ⟨S4x8192x512, .f32⟩
  | 42 => ⟨S1x1x512, .f32⟩
  | 43 => ⟨S4x8192x512, .f32⟩
  | 44 => ⟨S4x8192x512, .f32⟩
  | 45 => ⟨S1x1x512, .f32⟩
  | 46 => ⟨S4x8192x512, .f32⟩
  | 47 => ⟨S4x8192x512, .f32⟩
  | 48 => ⟨S4x8192x512, .f32⟩
  | 49 => ⟨S_, .f32⟩
  | 50 => ⟨S4x8192x512, .f32⟩
  | 51 => ⟨S4x8192x512, .f32⟩
  | 52 => ⟨S4x128x64x4x128, .f32⟩
  | 53 => ⟨S128x4x4x64x128, .f32⟩
  | 54 => ⟨S4x128x64x4x128, .f32⟩
  | 55 => ⟨S128x4x4x64x128, .f32⟩
  | 56 => ⟨S4x128x64x4x128, .f32⟩
  | 57 => ⟨S128x4x4x64x128, .f32⟩
  | 58 => ⟨S4x128x64x4x128, .f32⟩
  | 59 => ⟨S128x4x4x64x128, .f32⟩
  | 60 => ⟨S_, .f32⟩
  | 61 => ⟨S_, .f32⟩
  | 62 => ⟨S128x4x4x64x128, .f32⟩
  | 63 => ⟨S128x4x4x1x128, .f32⟩
  | 64 => ⟨S128x4x4x1x128, .f32⟩
  | 65 => ⟨S128x4x4x64x128, .f32⟩
  | 66 => ⟨S128x4x4x64x128, .f32⟩
  | 67 => ⟨S128x4x4x64x128, .f32⟩
  | 68 => ⟨S128x4x4x64x128, .f32⟩
  | 69 => ⟨S128x4x4x64x128, .f32⟩
  | 70 => ⟨S128x4x4x64x128, .f32⟩
  | 71 => ⟨S128x4x4x64x128, .f32⟩
  | 72 => ⟨S128x4x4x64x128, .f32⟩
  | 73 => ⟨S128x4x4x64x64, .f32⟩
  | 74 => ⟨S_, .i1⟩
  | 75 => ⟨S64x64, .i1⟩
  | 76 => ⟨S64x64, .i32⟩
  | 77 => ⟨S_, .i32⟩
  | 78 => ⟨S64x64, .i32⟩
  | 79 => ⟨S64x64, .i32⟩
  | 80 => ⟨S64x64, .i32⟩
  | 81 => ⟨S64x64, .i1⟩
  | 82 => ⟨S_, .i1⟩
  | 83 => ⟨S64x64, .i1⟩
  | 84 => ⟨S64x64, .i1⟩
  | 85 => ⟨S_, .f32⟩
  | 86 => ⟨S_, .f32⟩
  | 87 => ⟨S128x4x4x64x64, .i1⟩
  | 88 => ⟨S128x4x4x64x64, .f32⟩
  | 89 => ⟨S128x4x4x64x64, .f32⟩
  | 90 => ⟨S128x4x4x64x128, .f32⟩
  | 91 => ⟨S128x4x4x64x128, .f32⟩
  | 92 => ⟨S128x4x4x64x128, .f32⟩
  | 93 => ⟨S128x4x4x64x128, .f32⟩
  | 94 => ⟨S128x4x4x64x128, .f32⟩
  | 95 => ⟨S128x4x4x128x128, .f32⟩
  | 96 => ⟨S128x4x4x128, .f32⟩
  | 97 => ⟨S128x4x4x128, .f32⟩
  | 98 => ⟨S_, .f32⟩
  | 99 => ⟨S4x4x128x128, .f32⟩
  | 100 => ⟨S128x4x4x64x128, .f32⟩
  | 101 => ⟨S128x4x4x64x128, .f32⟩
  | 102 => ⟨S_, .f32⟩
  | 103 => ⟨S128x4x4x64x128, .f32⟩
  | 104 => ⟨S_, .i32⟩
  | 105 => ⟨S128x4x4x128, .f32⟩
  | 106 => ⟨S128x4x4x128x128, .f32⟩
  | 107 => ⟨S128x4x4x64x128, .f32⟩
  | 108 => ⟨S128x4x4x64x128, .f32⟩
  | 109 => ⟨S_, .i32⟩
  | 110 => ⟨S4x4x128x128, .f32⟩
  | 111 => ⟨S128x4x4x64x128, .f32⟩
  | 112 => ⟨S_, .i32⟩
  | 113 => ⟨S_, .i1⟩
  | 114 => ⟨S_, .i32⟩
  | 115 => ⟨S_, .i32⟩
  | 116 => ⟨S_, .i32⟩
  | 117 => ⟨S1x4x4x128, .f32⟩
  | 118 => ⟨S4x4x128, .f32⟩
  | 119 => ⟨S_, .i32⟩
  | 120 => ⟨S_, .i32⟩
  | 121 => ⟨S_, .i32⟩
  | 122 => ⟨S_, .i32⟩
  | 123 => ⟨S1x4x4x128x128, .f32⟩
  | 124 => ⟨S4x4x128x128, .f32⟩
  | 125 => ⟨S_, .i32⟩
  | 126 => ⟨S_, .i32⟩
  | 127 => ⟨S_, .i32⟩
  | _ => ⟨S4x8192x2048, .f32⟩

abbrev hbmTy0_1 (i : Nat) : BufTy := match i % 128 with
  | 0 => ⟨S_, .i32⟩
  | 1 => ⟨S1x4x4x64x128, .f32⟩
  | 2 => ⟨S4x4x64x128, .f32⟩
  | 3 => ⟨S_, .i32⟩
  | 4 => ⟨S_, .i32⟩
  | 5 => ⟨S_, .i32⟩
  | 6 => ⟨S_, .i32⟩
  | 7 => ⟨S1x4x4x64x128, .f32⟩
  | 8 => ⟨S4x4x64x128, .f32⟩
  | 9 => ⟨S4x4x64x128, .f32⟩
  | 10 => ⟨S4x4x64x128, .f32⟩
  | 11 => ⟨S4x4x128x1, .f32⟩
  | 12 => ⟨S4x4x128x128, .f32⟩
  | 13 => ⟨S4x4x128x128, .f32⟩
  | 14 => ⟨S4x4x128x128, .f32⟩
  | 15 => ⟨S1x4x4x64x128, .f32⟩
  | 16 => ⟨S_, .i32⟩
  | 17 => ⟨S_, .i32⟩
  | 18 => ⟨S_, .i32⟩
  | 19 => ⟨S_, .i32⟩
  | 20 => ⟨S128x4x4x64x128, .f32⟩
  | 21 => ⟨S_, .i32⟩
  | 22 => ⟨S_, .i32⟩
  | 23 => ⟨S128x4x4x64x128, .f32⟩
  | 24 => ⟨S_, .f32⟩
  | 25 => ⟨S128x4x4x64, .f32⟩
  | 26 => ⟨S128x4x4x64x1, .f32⟩
  | 27 => ⟨S_, .f32⟩
  | 28 => ⟨S128x4x4x64x1, .f32⟩
  | 29 => ⟨S128x4x4x64x1, .f32⟩
  | 30 => ⟨S_, .f32⟩
  | 31 => ⟨S128x4x4x64x1, .f32⟩
  | 32 => ⟨S128x4x4x64x1, .f32⟩
  | 33 => ⟨S128x4x4x64x1, .f32⟩
  | 34 => ⟨S128x4x4x64x128, .f32⟩
  | 35 => ⟨S128x4x4x64x128, .f32⟩
  | 36 => ⟨S4x128x64x4x128, .f32⟩
  | 37 => ⟨S4x8192x512, .f32⟩
  | 38 => ⟨S1x1x512, .f32⟩
  | 39 => ⟨S4x8192x512, .f32⟩
  | 40 => ⟨S4x8192x512, .f32⟩
  | 41 => ⟨S4x8192x512, .f32⟩
  | 42 => ⟨S4x8192x512, .f32⟩
  | 43 => ⟨S4x8192x512, .f32⟩
  | 44 => ⟨S_, .f32⟩
  | 45 => ⟨S4x8192x512, .f32⟩
  | 46 => ⟨S4x8192x512, .f32⟩
  | 47 => ⟨S_, .f32⟩
  | 48 => ⟨S4x8192x512, .f32⟩
  | 49 => ⟨S4x8192x512, .f32⟩
  | 50 => ⟨S4x8192x512, .f32⟩
  | 51 => ⟨S4x8192x512, .f32⟩
  | 52 => ⟨S4x8192x512, .bf16⟩
  | _ => ⟨S4x8192x2048, .f32⟩

abbrev hbmTy (i : Nat) : BufTy := match i / 128 with
  | 0 => hbmTy0_0 i
  | 1 => hbmTy0_1 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call1_call0_cst : Ref sig .tc := ⟨.hbm, 60, rfl⟩
abbrev main_call1_call0_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c : Ref sig .tc := ⟨.hbm, 74, rfl⟩
abbrev main_v54 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_0 : Ref sig .tc := ⟨.hbm, 82, rfl⟩
abbrev main_call2_v5 : Ref sig .tc := ⟨.hbm, 83, rfl⟩
abbrev main_v55 : Ref sig .tc := ⟨.hbm, 84, rfl⟩
abbrev main_cst_6 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_7 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_8 : Ref sig .tc := ⟨.hbm, 102, rfl⟩
abbrev main_v68 : Ref sig .tc := ⟨.hbm, 103, rfl⟩
abbrev main_c_9 : Ref sig .tc := ⟨.hbm, 104, rfl⟩
abbrev main_v69_0 : Ref sig .tc := ⟨.hbm, 105, rfl⟩
abbrev main_v69_1 : Ref sig .tc := ⟨.hbm, 106, rfl⟩
abbrev main_v69_2 : Ref sig .tc := ⟨.hbm, 107, rfl⟩
abbrev main_v69_3 : Ref sig .tc := ⟨.hbm, 108, rfl⟩
abbrev main_v69_4 : Ref sig .tc := ⟨.hbm, 109, rfl⟩
abbrev main_v69_5 : Ref sig .tc := ⟨.hbm, 110, rfl⟩
abbrev main_v69_6 : Ref sig .tc := ⟨.hbm, 111, rfl⟩
abbrev main_while0c_c_19 : Ref sig .tc := ⟨.hbm, 112, rfl⟩
abbrev main_while0c_v89 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_call4_c_1 : Ref sig .tc := ⟨.hbm, 116, rfl⟩
abbrev main_while0b_call4_v0 : Ref sig .tc := ⟨.hbm, 117, rfl⟩
abbrev main_while0b_v89 : Ref sig .tc := ⟨.hbm, 118, rfl⟩
abbrev main_while0b_call5_c : Ref sig .tc := ⟨.hbm, 119, rfl⟩
abbrev main_while0b_call5_c_0 : Ref sig .tc := ⟨.hbm, 120, rfl⟩
abbrev main_while0b_call5_c_1 : Ref sig .tc := ⟨.hbm, 121, rfl⟩
abbrev main_while0b_call5_c_2 : Ref sig .tc := ⟨.hbm, 122, rfl⟩
abbrev main_while0b_call5_v0 : Ref sig .tc := ⟨.hbm, 123, rfl⟩
abbrev main_while0b_v90 : Ref sig .tc := ⟨.hbm, 124, rfl⟩
abbrev main_while0b_call6_c : Ref sig .tc := ⟨.hbm, 125, rfl⟩
abbrev main_while0b_call6_c_0 : Ref sig .tc := ⟨.hbm, 126, rfl⟩
abbrev main_while0b_call6_c_1 : Ref sig .tc := ⟨.hbm, 127, rfl⟩
abbrev main_while0b_call6_c_2 : Ref sig .tc := ⟨.hbm, 128, rfl⟩
abbrev main_while0b_call6_v0 : Ref sig .tc := ⟨.hbm, 129, rfl⟩
abbrev main_while0b_v91 : Ref sig .tc := ⟨.hbm, 130, rfl⟩
abbrev main_while0b_call7_c : Ref sig .tc := ⟨.hbm, 131, rfl⟩
abbrev main_while0b_call7_c_0 : Ref sig .tc := ⟨.hbm, 132, rfl⟩
abbrev main_while0b_call7_c_1 : Ref sig .tc := ⟨.hbm, 133, rfl⟩
abbrev main_while0b_call7_c_2 : Ref sig .tc := ⟨.hbm, 134, rfl⟩
abbrev main_while0b_call7_v0 : Ref sig .tc := ⟨.hbm, 135, rfl⟩
abbrev main_while0b_v92 : Ref sig .tc := ⟨.hbm, 136, rfl⟩
abbrev main_while0b_v93 : Ref sig .tc := ⟨.hbm, 137, rfl⟩
abbrev main_while0b_v94 : Ref sig .tc := ⟨.hbm, 138, rfl⟩
abbrev main_while0b_v95 : Ref sig .tc := ⟨.hbm, 139, rfl⟩
abbrev main_while0b_v96 : Ref sig .tc := ⟨.hbm, 140, rfl⟩
abbrev main_while0b_v97 : Ref sig .tc := ⟨.hbm, 141, rfl⟩
abbrev main_while0b_v98 : Ref sig .tc := ⟨.hbm, 142, rfl⟩
abbrev main_while0b_call8_v0 : Ref sig .tc := ⟨.hbm, 143, rfl⟩
abbrev main_while0b_call8_c : Ref sig .tc := ⟨.hbm, 144, rfl⟩
abbrev main_while0b_call8_c_0 : Ref sig .tc := ⟨.hbm, 145, rfl⟩
abbrev main_while0b_call8_c_1 : Ref sig .tc := ⟨.hbm, 146, rfl⟩
abbrev main_while0b_call8_c_2 : Ref sig .tc := ⟨.hbm, 147, rfl⟩
abbrev main_while0b_v99 : Ref sig .tc := ⟨.hbm, 148, rfl⟩
abbrev main_while0b_c_19 : Ref sig .tc := ⟨.hbm, 149, rfl⟩
abbrev main_while0b_v100 : Ref sig .tc := ⟨.hbm, 150, rfl⟩
abbrev main_v70 : Ref sig .tc := ⟨.hbm, 151, rfl⟩
abbrev main_cst_10 : Ref sig .tc := ⟨.hbm, 152, rfl⟩
abbrev main_v71 : Ref sig .tc := ⟨.hbm, 153, rfl⟩
abbrev main_v72 : Ref sig .tc := ⟨.hbm, 154, rfl⟩
abbrev main_cst_11 : Ref sig .tc := ⟨.hbm, 155, rfl⟩
abbrev main_v73 : Ref sig .tc := ⟨.hbm, 156, rfl⟩
abbrev main_v74 : Ref sig .tc := ⟨.hbm, 157, rfl⟩
abbrev main_cst_12 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_call9_v0 : Ref sig .tc := ⟨.hbm, 170, rfl⟩
abbrev main_call9_v1 : Ref sig .tc := ⟨.hbm, 171, rfl⟩
abbrev main_call9_cst : Ref sig .tc := ⟨.hbm, 172, rfl⟩
abbrev main_call9_v2 : Ref sig .tc := ⟨.hbm, 173, rfl⟩
abbrev main_call9_v3 : Ref sig .tc := ⟨.hbm, 174, rfl⟩
abbrev main_call9_cst_0 : Ref sig .tc := ⟨.hbm, 175, rfl⟩
abbrev main_call9_v4 : Ref sig .tc := ⟨.hbm, 176, rfl⟩
abbrev main_call9_v5 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩

abbrev nD : Nat := 1
abbrev τ : Topo := Topo.v7x

variable {F : FTy → Type} [FloatOps F]

abbrev main_while0_count : Scf.Loop 32 := ⟨0#32, 128#32, 1#32⟩
-- ==== Proj.lean ====
abbrev S32768x1024 : Shape := ⟨2, ![32768, 1024]⟩
abbrev S1x1024 : Shape := ⟨2, ![1, 1024]⟩
abbrev S1024x3840 : Shape := ⟨2, ![1024, 3840]⟩
abbrev S32768x2048 : Shape := ⟨2, ![32768, 2048]⟩
abbrev S32768x1792 : Shape := ⟨2, ![32768, 1792]⟩
abbrev S512x1024 : Shape := ⟨2, ![512, 1024]⟩
abbrev S512x2048 : Shape := ⟨2, ![512, 2048]⟩
abbrev S512x1792 : Shape := ⟨2, ![512, 1792]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x3840, .f32⟩
  | .hbm, ⟨3, _⟩ => ⟨S1024x3840, .bf16⟩
  | .hbm, ⟨4, _⟩ => ⟨S32768x2048, .f32⟩
  | .hbm, ⟨5, _⟩ => ⟨S32768x1792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S512x2048, .f32⟩
  | .local _ .vmem, ⟨5, _⟩ => ⟨S512x2048, .f32⟩
  | .local _ .vmem, ⟨6, _⟩ => ⟨S512x1792, .f32⟩
  | .local _ .vmem, ⟨7, _⟩ => ⟨S512x1792, .f32⟩
  | .local _ .vmem, ⟨8, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjReferenceIdeal.lean ====
abbrev S32768x1024 : Shape := ⟨2, ![32768, 1024]⟩
abbrev S1x1024 : Shape := ⟨2, ![1, 1024]⟩
abbrev S1024x3840 : Shape := ⟨2, ![1024, 3840]⟩
abbrev S_ : Shape := ⟨0, ![]⟩
abbrev S32768 : Shape := ⟨1, ![32768]⟩
abbrev S32768x1 : Shape := ⟨2, ![32768, 1]⟩
abbrev S32768x3840 : Shape := ⟨2, ![32768, 3840]⟩
abbrev S32768x2048 : Shape := ⟨2, ![32768, 2048]⟩
abbrev S32768x1792 : Shape := ⟨2, ![32768, 1792]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x3840, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x3840, .f32⟩
  | .hbm, ⟨19, _⟩ => ⟨S32768x2048, .f32⟩
  | .hbm, ⟨20, _⟩ => ⟨S32768x1792, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Ffn.lean ====
abbrev S32768x1024 : Shape := ⟨2, ![32768, 1024]⟩
abbrev S32768x512 : Shape := ⟨2, ![32768, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S256x2816 : Shape := ⟨2, ![256, 2816]⟩

abbrev nBuf : Space → Nat
  | .hbm => 14
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x1024, .f32⟩
  | .hbm, ⟨9, _⟩ => ⟨S1024x1024, .bf16⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnReferenceIdeal.lean ====
abbrev S32768x1024 : Shape := ⟨2, ![32768, 1024]⟩
abbrev S32768x512 : Shape := ⟨2, ![32768, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x1024, .f32⟩
  | .hbm, ⟨9, _⟩ => ⟨S32768x512, .f32⟩
  | .hbm, ⟨10, _⟩ => ⟨S32768x512, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Rwkv.lean ====
abbrev S4x8192x1792 : Shape := ⟨3, ![4, 8192, 1792]⟩
abbrev S1x1792 : Shape := ⟨2, ![1, 1792]⟩
abbrev S1x512 : Shape := ⟨2, ![1, 512]⟩
abbrev S64x512 : Shape := ⟨2, ![64, 512]⟩
abbrev S128x512 : Shape := ⟨2, ![128, 512]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S64x1024 : Shape := ⟨2, ![64, 1024]⟩
abbrev S128x1024 : Shape := ⟨2, ![128, 1024]⟩
abbrev S512 : Shape := ⟨1, ![512]⟩
abbrev S512x1 : Shape := ⟨2, ![512, 1]⟩
abbrev S512x512 : Shape := ⟨2, ![512, 512]⟩
abbrev S4x8192x512 : Shape := ⟨3, ![4, 8192, 512]⟩
abbrev S1x256x1792 : Shape := ⟨3, ![1, 256, 1792]⟩
abbrev S1x256x512 : Shape := ⟨3, ![1, 256, 512]⟩
abbrev S4x64x128 : Shape := ⟨3, ![4, 64, 128]⟩
abbrev S256x1792 : Shape := ⟨2, ![256, 1792]⟩
abbrev S256x512 : Shape := ⟨2, ![256, 512]⟩
abbrev S256x128 : Shape := ⟨2, ![256, 128]⟩
abbrev S256x1024 : Shape := ⟨2, ![256, 1024]⟩
abbrev S64x128 : Shape := ⟨2, ![64, 128]⟩
abbrev S128x128 : Shape := ⟨2, ![128, 128]⟩
abbrev S1x128 : Shape := ⟨2, ![1, 128]⟩
abbrev S128x256 : Shape := ⟨2, ![128, 256]⟩
abbrev S64x256 : Shape := ⟨2, ![64, 256]⟩
abbrev S1x64x128 : Shape := ⟨3, ![1, 64, 128]⟩

abbrev nBuf : Space → Nat
  | .hbm => 69
  | .vmem => 18
  | .smem => 0
  | _ => 0

abbrev bufTy : (tb : Table) → Fin (tcTables nBuf tb) → BufTy
  | .hbm, ⟨0, _⟩ => ⟨S4x8192x1792, .f32⟩
  | .hbm, ⟨1, _⟩ => ⟨S1x1792, .f32⟩
  | .hbm, ⟨2, _⟩ => ⟨S1x512, .f32⟩
  | .hbm, ⟨3, _⟩ => ⟨S64x512, .f32⟩
  | .hbm, ⟨4, _⟩ => ⟨S1x512, .f32⟩
  | .hbm, ⟨5, _⟩ => ⟨S64x512, .f32⟩
  | .hbm, ⟨6, _⟩ => ⟨S128x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S4x4, .i32⟩
  | .hbm, ⟨13, _⟩ => ⟨S4x4, .i32⟩
  | .hbm, ⟨14, _⟩ => ⟨S_, .i32⟩
  | .hbm, ⟨15, _⟩ => ⟨S4x4, .i32⟩
  | .hbm, ⟨16, _⟩ => ⟨S4x4, .i32⟩
  | .hbm, ⟨17, _⟩ => ⟨S4x4, .i1⟩
  | .hbm, ⟨18, _⟩ => ⟨S4x4, .bf16⟩
  | .hbm, ⟨19, _⟩ => ⟨S_, .bf16⟩
  | .hbm, ⟨20, _⟩ => ⟨S64x64, .bf16⟩
  | .hbm, ⟨21, _⟩ => ⟨S64x64, .i32⟩
  | .hbm, ⟨22, _⟩ => ⟨S_, .i32⟩
  | .hbm, ⟨23, _⟩ => ⟨S64x64, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S_, .bf16⟩
  | .hbm, ⟨28, _⟩ => ⟨S64x64, .bf16⟩
  | .hbm, ⟨29, _⟩ => ⟨S64x64, .bf16⟩
  | .hbm, ⟨30, _⟩ => ⟨S4x1x4x1, .bf16⟩
  | .hbm, ⟨31, _⟩ => ⟨S1x64x1x64, .bf16⟩
  | .hbm, ⟨32, _⟩ => ⟨S4x64x4x64, .bf16⟩
  | .hbm, ⟨33, _⟩ => ⟨S4x64x4x64, .bf16⟩
  | .hbm, ⟨34, _⟩ => ⟨S4x64x4x64, .bf16⟩
  | .hbm, ⟨35, _⟩ => ⟨S256x256, .bf16⟩
  | .hbm, ⟨36, _⟩ => ⟨S_, .f32⟩
  | .hbm, ⟨37, _⟩ => ⟨S64x512, .f32⟩
  | .hbm, ⟨38, _⟩ => ⟨S64x1024, .f32⟩
  | .hbm, ⟨39, _⟩ => ⟨S64x1024, .f32⟩
  | .hbm, ⟨40, _⟩ => ⟨S128x1024, .f32⟩
  | .hbm, ⟨41, _⟩ => ⟨S128x1024, .bf16⟩
  | .hbm, ⟨42, _⟩ => ⟨S512, .i32⟩
  | .hbm, ⟨43, _⟩ => ⟨S_, .i32⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S512, .i32⟩
  | .hbm, ⟨52, _⟩ => ⟨S512, .i32⟩
  | .hbm, ⟨53, _⟩ => ⟨S_, .i32⟩
  | .hbm, ⟨54, _⟩ => ⟨S512, .i32⟩
  | .hbm, ⟨55, _⟩ => ⟨S512, .i1⟩
  | .hbm, ⟨56, _⟩ => ⟨S512, .i1⟩
  | .hbm, ⟨57, _⟩ => ⟨S_, .i32⟩
  | .hbm, ⟨58, _⟩ => ⟨S512, .i32⟩
  | .hbm, ⟨59, _⟩ => ⟨S512, .i32⟩
  | .hbm, ⟨60, _⟩ => ⟨S512, .i32⟩
  | .hbm, ⟨61, _⟩ => ⟨S512x1, .i32⟩
  | .hbm, ⟨62, _⟩ => ⟨S1x512, .i32⟩
  | .hbm, ⟨63, _⟩ => ⟨S512x512, .i32⟩
  | .hbm, ⟨64, _⟩ => ⟨S512x512, .i32⟩
  | .hbm, ⟨65, _⟩ => ⟨S512x512, .i1⟩
  | .hbm, ⟨66, _⟩ => ⟨S512x512, .bf16⟩
  | .hbm, ⟨67, _⟩ => ⟨S128x512, .bf16⟩
  | .hbm, ⟨68, _⟩ => ⟨S4x8192x512, .bf16⟩
  | .local _ .vmem, ⟨0, _⟩ => ⟨S1x256x1792, .f32⟩
  | .local _ .vmem, ⟨1, _⟩ => ⟨S1x256x1792, .f32⟩
  | .local _ .vmem, ⟨2, _⟩ => ⟨S1x1792, .f32⟩
  | .local _ .vmem, ⟨3, _⟩ => ⟨S1x512, .f32⟩
  | .local _ .vmem, ⟨4, _⟩ => ⟨S1x512, .f32⟩
  | .local _ .vmem, ⟨5, _⟩ => ⟨S128x1024, .bf16⟩
  | .local _ .vmem, ⟨6, _⟩ => ⟨S128x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x256, .bf16⟩
  | .local _ .vmem, ⟨13, _⟩ => ⟨S512x512, .bf16⟩
  | .local _ .vmem, ⟨14, _⟩ => ⟨S1x256x512, .bf16⟩
  | .local _ .vmem, ⟨15, _⟩ => ⟨S1x256x512, .bf16⟩
  | .local _ .vmem, ⟨16, _⟩ => ⟨S4x64x128, .f32⟩
  | .local _ .vmem, ⟨17, _⟩ => ⟨S1x1792, .f32⟩
  | _, _ => ⟨S4x8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_v7 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_1 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_c : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_0 : Ref sig .tc := ⟨.hbm, 57, rfl⟩
abbrev main_call2_v12 : Ref sig .tc := ⟨.hbm, 58, rfl⟩
abbrev main_call2_v13 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proof.Hgrn.Block.lean ====
/- One grid point of the recurrence's kernel, chunk by chunk and head by head: the values it computes from its operands,
   as functions of the chunk and of the head. -/
module

public import proofs.«01_k».proof.Proof.Gen.KernelIdeal.Frame
public import Idealize.ShloMosaic.Lib.Pointwise

@[expose] public section

set_option maxRecDepth 16384

noncomputable section

namespace Hgrn

open Idealize.ShloMosaic Idealize.ShloMosaic.TcCoe Idealize.SL.Sem
open Cert.KernelIdeal Cert.KernelIdeal.Gen

theorem slices_rows (c : Fin 4) : S256x512.Slices ![64 * c.val, 0] S64x512 := by revert c; decide
theorem slices_heads (h : Fin 4) : S64x512.Slices ![0, 128 * h.val] S64x128 := by revert h; decide
theorem slices_head (h : Fin 4) : S1x512.Slices ![0, 128 * h.val] S1x128 := by revert h; decide

/-- Chunk `c` of a block of 256 rows. -/
def rows (c : Fin 4) (x : FVec Ideal S256x512 .f32) : FVec Ideal S64x512 .f32 :=
  extractStridedSlice S64x512 ![64 * c.val, 0] x (slices_rows c)

/-- Head `h` of a chunk. -/
def head (h : Fin 4) (x : FVec Ideal S64x512 .f32) : FVec Ideal S64x128 .f32 :=
  extractStridedSlice S64x128 ![0, 128 * h.val] x (slices_heads h)

/-- Row 32 and row 63 of a chunk. -/
def mid (b : FVec Ideal S64x512 .f32) : FVec Ideal S1x512 .f32 :=
  extractStridedSlice S1x512 ![32, 0] b slices_S64x512_o32_0_S1x512
def last (b : FVec Ideal S64x512 .f32) : FVec Ideal S1x512 .f32 :=
  extractStridedSlice S1x512 ![63, 0] b slices_S64x512_o63_0_S1x512

section
variable (q k b v : FVec Ideal S256x512 .f32) (c h : Fin 4)

/-- The queries against the chunk's middle row, the keys against it, the queries against the state, the keys against the
    chunk's last row, the values, and the decay over the chunk. -/
def qMid : FVec Ideal S64x128 .f32 :=
  head h (mulf (rows c q) (exp (subf (rows c b) (broadcastTo S64x512 (mid (rows c b)) broadcasts_S1x512_S64x512))))
def kMid : FVec Ideal S64x128 .f32 :=
  head h (mulf (rows c k) (exp (subf (broadcastTo S64x512 (mid (rows c b)) broadcasts_S1x512_S64x512) (rows c b))))
def qState : FVec Ideal S64x128 .f32 := head h (mulf (rows c q) (exp (rows c b)))
def kLast : FVec Ideal S64x128 .f32 :=
  head h (mulf (rows c k) (exp (subf (broadcastTo S64x512 (last (rows c b)) broadcasts_S1x512_S64x512) (rows c b))))
def vals : FVec Ideal S64x128 .f32 := head h (rows c v)
def decay : FVec Ideal S1x128 .f32 :=
  extractStridedSlice S1x128 ![0, 128 * h.val] (exp (last (rows c b))) (slices_head h)

/-- The causal scores of a chunk. -/
def scores : FVec Ideal S64x64 .f32 :=
  select (k0_pay13) (matmul dot_S64x128_S64x128_S64x64_1_1_0_0_n_n none (truncf .bf16 (qMid q b c h) bitsLt_bf16_f32)
    (truncf .bf16 (kMid k b c h) bitsLt_bf16_f32) (constant S64x64 .f32 0x00000000#32))
    (broadcast S64x64 (Scalar.ofBits (F := Ideal) .f32 0x00000000#32))

/-- What the chunk adds to the state. -/
def update : FVec Ideal S128x128 .f32 :=
  matmul dot_S128x64_S64x128_S128x128_1_0_0_1_n_n none
    (truncf .bf16 (transpose S128x64 [1, 0] (vals v c h) transposes_S64x128_p1_0_S128x64) bitsLt_bf16_f32)
    (truncf .bf16 (kLast k b c h) bitsLt_bf16_f32) (constant S128x128 .f32 0x00000000#32)

/-- The state after the chunk. -/
def stateNext (s : FVec Ideal S128x128 .f32) : FVec Ideal S128x128 .f32 :=
  addf (mulf s (broadcastTo S128x128 (decay b c h) broadcasts_S1x128_S128x128)) (update k b v c h)

/-- The chunk's output against the state before it. -/
def mixed (s : FVec Ideal S128x128 .f32) : FVec Ideal S64x128 .f32 :=
  addf (matmul dot_S64x64_S64x128_S64x128_1_0_0_1_n_n none (truncf .bf16 (scores q k b c h) bitsLt_bf16_f32)
      (truncf .bf16 (vals v c h) bitsLt_bf16_f32) (constant S64x128 .f32 0x00000000#32))
    (matmul dot_S64x128_S128x128_S64x128_1_1_0_0_n_n none (truncf .bf16 (qState q b c h) bitsLt_bf16_f32)
      (truncf .bf16 s bitsLt_bf16_f32) (constant S64x128 .f32 0x00000000#32))

end

/-- A head's output scaled by the root of its mean square. -/
def normed (o : FVec Ideal S64x128 .f32) : FVec Ideal S64x128 .f32 :=
  mulf o (broadcastTo S64x128 (rsqrt (addf (divf (shapeCast S64x1
      (multiReduction .add [1] S64 (mulf o o) 0x00000000#32 reduces_S64x128_S64 (.inl rfl) rfl) shapeCasts_S64_S64x1)
      (broadcast S64x1 (Scalar.ofBits (F := Ideal) .f32 0x43000000#32)))
    (broadcast S64x1 (Scalar.ofBits (F := Ideal) .f32 0x358637BD#32)))) broadcasts_S64x1_S64x128)

section
variable (q k b v : FVec Ideal S256x512 .f32)

/-- The state of head `h` after the first `n` chunks of the block. -/
def stateAt (s : FVec Ideal S128x128 .f32) (h : Fin 4) : (n : Nat) → FVec Ideal S128x128 .f32
  | 0 => s
  | n + 1 => if hn : n < 4 then stateNext k b v ⟨n, hn⟩ h (stateAt s h n) else stateAt s h n

/-- Chunk `c` of the block's output, before the gate. -/
def chunkOut (s : Fin 4 → FVec Ideal S128x128 .f32) (c : Fin 4) : FVec Ideal S64x512 .f32 :=
  concatenate S64x512 1
    [⟨S64x128, normed (mixed q k b v c 0 (stateAt k b v (s 0) 0 c.val))⟩, ⟨S64x128, normed (mixed q k b v c 1 (stateAt k b v (s 1) 1 c.val))⟩,
      ⟨S64x128, normed (mixed q k b v c 2 (stateAt k b v (s 2) 2 c.val))⟩, ⟨S64x128, normed (mixed q k b v c 3 (stateAt k b v (s 3) 3 c.val))⟩]
    concatenates_S64x128_S64x128_S64x128_S64x128_S64x512_d1

/-- The block's output. -/
def blockOut (s : Fin 4 → FVec Ideal S128x128 .f32) (g : FVec Ideal S256x512 .f32) : FVec Ideal S256x512 .bf16 :=
  truncf .bf16 (mulf (concatenate S256x512 0
    [⟨S64x512, chunkOut q k b v s 0⟩, ⟨S64x512, chunkOut q k b v s 1⟩, ⟨S64x512, chunkOut q k b v s 2⟩, ⟨S64x512, chunkOut q k b v s 3⟩]
    concatenates_S64x512_S64x512_S64x512_S64x512_S256x512_d0) g) bitsLt_bf16_f32

end

end Hgrn

end
-- ==== Proof.Hgrn.Cases.lean ====
/- What one grid point of the recurrence's kernel leaves in its output block and in the carried state. -/
module

public import proofs.«01_k».proof.Proof.Hgrn.Block
public import Idealize.ShloMosaic.Lib.Pipeline.Value
public import Idealize.ShloMosaic.Lib.Pipeline.ReadBack

@[expose] public section

set_option maxRecDepth 16384

noncomputable section

namespace Hgrn

open Idealize.ShloMosaic Idealize.ShloMosaic.TcCoe Idealize.SL.Sem
open Cert.KernelIdeal Cert.KernelIdeal.Gen

theorem offs2 : (![0, 0] : Fin 2 → Nat) = fun _ => 0 := funext fun a => by fin_cases a <;> rfl
theorem offs3 : (![0, 0, 0] : Fin 3 → Nat) = fun _ => 0 := funext fun a => by fin_cases a <;> rfl

section
variable (p : Vec Ideal S1x256x2048 .f32) (lbp : Vec Ideal S2x512 .f32) (nw : Vec Ideal S1x512 .f32) (tri : Vec Ideal S256x256 .bf16)
  (s : Vec Ideal S4x128x128 .f32)

/-- The queries, the forget gate's exponential, the keys, the running sums, the values and the gate of one block of rows. -/
def qOf : FVec Ideal S256x512 .f32 := k0_pay6 (View.ld p (Rect.unit ![0, 0, 0] ![1, 256, 512] inb_S1x256x2048_S1x256x512_0_0_0))
def eOf : FVec Ideal S256x512 .f32 := k0_pay8 (View.ld p (Rect.unit ![0, 0, 512] ![1, 256, 512] inb_S1x256x2048_S1x256x512_0_0_512))
def kOf : FVec Ideal S256x512 .f32 := k0_pay10 (k0_pay3 lbp) (k0_pay7 lbp) (eOf p)
def bOf : FVec Ideal S256x512 .f32 := k0_pay11 (k0_pay3 lbp) (k0_pay7 lbp) (eOf p) tri
def vOf : FVec Ideal S256x512 .f32 := k0_pay4 (View.ld p (Rect.unit ![0, 0, 1024] ![1, 256, 512] inb_S1x256x2048_S1x256x512_0_0_1024))
def gOf : FVec Ideal S256x512 .f32 :=
  k0_pay12 (k0_pay5 (View.ld p (Rect.unit ![0, 0, 1536] ![1, 256, 512] inb_S1x256x2048_S1x256x512_0_0_1536))) nw

theorem inb_state (h : Fin 4) : ∀ a, (![h.val, 0, 0] : Fin 3 → Nat) a + (![1, 128, 128] : Fin 3 → Nat) a ≤ S4x128x128.size a := by
  revert h; decide

/-- Head `h` of the carried state. -/
def headState (h : Fin 4) : FVec Ideal S128x128 .f32 :=
  k0_pay205 (View.ld s (Rect.unit ![h.val, 0, 0] ![1, 128, 128] (inb_state h)))

end

section
variable (c : Dev nD) (i : grid0.Coords)
  (a2 : Memref sig .tc .vmem S1x256x2048 .f32) (h2 : a2.IsWhole) (a3 : Memref sig .tc .vmem S2x512 .f32) (h3 : a3.IsWhole)
  (a4 : Memref sig .tc .vmem S1x512 .f32) (h4 : a4.IsWhole) (a5 : Memref sig .tc .vmem S256x256 .bf16) (h5 : a5.IsWhole)
  (a6 : Memref sig .tc .vmem S1x256x512 .bf16) (h6 : a6.IsWhole) (a7 : Memref sig .tc .vmem S4x128x128 .f32) (h7 : a7.IsWhole)
  (p : Vec Ideal S1x256x2048 .f32) (lbp : Vec Ideal S2x512 .f32) (nw : Vec Ideal S1x512 .f32) (tri : Vec Ideal S256x256 .bf16)
  (s : Vec Ideal S4x128x128 .f32)

/-- Every point but a sequence's first writes its block from the state the point before carried to it. -/
theorem out_next (hc0 : ¬cond0_0 i) :
    out0_B_4 c i a2 h2 a3 h3 a4 h4 a5 h5 a6 h6 a7 h7 hc0 p lbp nw tri s
      = k0_pay1 (blockOut (qOf p) (kOf p lbp) (bOf p lbp tri) (vOf p) (headState s) (gOf p nw)) := by
  unfold out0_B_4
  rw [View.read_writes_eq_canon _ _ _ (cover0_B_4 c i a2 h2 a3 h3 a4 h4 a5 h5 a6 h6 a7 h7 hc0 p lbp nw tri s)]
  unfold kernelRun0_B
  dsimp only
  sl_unfold_words
  rw [View.canon_unit_zero offs3]
  simp only [View.readAt_eq_ld, h2.read_unread, h3.read_unread, h4.read_unread, h5.read_unread, h7.read_unread,
    View.ld_unit_zero (S := S2x512) offs2, View.ld_unit_zero (S := S1x512) offs2,
    View.ld_unit_zero (S := S256x256) offs2]
  rfl

/-- It carries on, head by head, the state after its four chunks. -/
theorem carried_next (hc0 : ¬cond0_0 i) :
    sout0_B_0 c i a2 h2 a3 h3 a4 h4 a5 h5 a6 h6 a7 h7 hc0 p lbp nw tri s
      = View.canon [
        ⟨Rect.unit ![3, 0, 0] ![1, 128, 128] inb_S4x128x128_S1x128x128_3_0_0, k0_pay247 (stateAt (kOf p lbp) (bOf p lbp tri) (vOf p) (headState s 3) 3 4)⟩,
        ⟨Rect.unit ![2, 0, 0] ![1, 128, 128] inb_S4x128x128_S1x128x128_2_0_0, k0_pay247 (stateAt (kOf p lbp) (bOf p lbp tri) (vOf p) (headState s 2) 2 4)⟩,
        ⟨Rect.unit ![1, 0, 0] ![1, 128, 128] inb_S4x128x128_S1x128x128_1_0_0, k0_pay247 (stateAt (kOf p lbp) (bOf p lbp tri) (vOf p) (headState s 1) 1 4)⟩,
        ⟨Rect.unit ![0, 0, 0] ![1, 128, 128] inb_S4x128x128_S1x128x128_0_0_0, k0_pay247 (stateAt (kOf p lbp) (bOf p lbp tri) (vOf p) (headState s 0) 0 4)⟩] := by
  unfold sout0_B_0
  rw [View.read_writes_eq_canon _ _ _ (scover0_B_0 c i a2 h2 a3 h3 a4 h4 a5 h5 a6 h6 a7 h7 hc0 p lbp nw tri s)]
  unfold kernelRun0_B
  dsimp only
  sl_unfold_words
  simp only [View.readAt_eq_ld, h2.read_unread, h3.read_unread, h4.read_unread, h5.read_unread, h7.read_unread,
    View.ld_unit_zero (S := S2x512) offs2, View.ld_unit_zero (S := S1x512) offs2,
    View.ld_unit_zero (S := S256x256) offs2]
  rfl

/-- A sequence's first point starts from the zero state. -/
theorem out_first (hc0 : cond0_0 i) :
    out0_A_4 c i a2 h2 a3 h3 a4 h4 a5 h5 a6 h6 a7 h7 hc0 p lbp nw tri
      = k0_pay1 (blockOut (qOf p) (kOf p lbp) (bOf p lbp tri) (vOf p) (headState (k0_pay2 (F := Ideal))) (gOf p nw)) := by
  unfold out0_A_4
  rw [View.read_writes_eq_canon _ _ _ (cover0_A_4 c i a2 h2 a3 h3 a4 h4 a5 h5 a6 h6 a7 h7 hc0 p lbp nw tri)]
  unfold kernelRun0_A
  dsimp only
  sl_unfold_words
  rw [View.canon_unit_zero offs3]
  simp only [View.readAt_eq_ld, h2.read_unread, h3.read_unread, h4.read_unread, h5.read_unread,
    View.ld_unit_zero (S := S2x512) offs2, View.ld_unit_zero (S := S1x512) offs2,
    View.ld_unit_zero (S := S256x256) offs2, View.readCov_fill (s := S4x128x128) _ _ _ _ _ (congrFun offs3)]
  rfl

theorem carried_first (hc0 : cond0_0 i) :
    sout0_A_0 c i a2 h2 a3 h3 a4 h4 a5 h5 a6 h6 a7 h7 hc0 p lbp nw tri
      = View.canon [
        ⟨Rect.unit ![3, 0, 0] ![1, 128, 128] inb_S4x128x128_S1x128x128_3_0_0, k0_pay247 (stateAt (kOf p lbp) (bOf p lbp tri) (vOf p) (headState (k0_pay2 (F := Ideal)) 3) 3 4)⟩,
        ⟨Rect.unit ![2, 0, 0] ![1, 128, 128] inb_S4x128x128_S1x128x128_2_0_0, k0_pay247 (stateAt (kOf p lbp) (bOf p lbp tri) (vOf p) (headState (k0_pay2 (F := Ideal)) 2) 2 4)⟩,
        ⟨Rect.unit ![1, 0, 0] ![1, 128, 128] inb_S4x128x128_S1x128x128_1_0_0, k0_pay247 (stateAt (kOf p lbp) (bOf p lbp tri) (vOf p) (headState (k0_pay2 (F := Ideal)) 1) 1 4)⟩,
        ⟨Rect.unit ![0, 0, 0] ![1, 128, 128] inb_S4x128x128_S1x128x128_0_0_0, k0_pay247 (stateAt (kOf p lbp) (bOf p lbp tri) (vOf p) (headState (k0_pay2 (F := Ideal)) 0) 0 4)⟩,
        ⟨Rect.unit ![0, 0, 0] ![4, 128, 128] inb_S4x128x128_S4x128x128_0_0_0, k0_pay2 (F := Ideal)⟩] := by
  unfold sout0_A_0
  rw [View.read_writes_eq_canon _ _ _ (scover0_A_0 c i a2 h2 a3 h3 a4 h4 a5 h5 a6 h6 a7 h7 hc0 p lbp nw tri)]
  unfold kernelRun0_A
  dsimp only
  sl_unfold_words
  simp only [View.readAt_eq_ld, h2.read_unread, h3.read_unread, h4.read_unread, h5.read_unread,
    View.ld_unit_zero (S := S2x512) offs2, View.ld_unit_zero (S := S1x512) offs2,
    View.ld_unit_zero (S := S256x256) offs2, View.readCov_fill (s := S4x128x128) _ _ _ _ _ (congrFun offs3)]
  rfl

end

end Hgrn

end
-- ==== Proof.Hgrn.Spec.lean ====
/- The mathematics of one chunk of the recurrence for one head, over the extended reals: `q`, `k`, `v` are the chunk's rows of
   queries, keys and values, `b` its running sums of the logarithms of the forget gates, `s` the state before it. -/
module

public import Idealize.ShloMosaic.Lib.Pointwise

@[expose] public section

noncomputable section

namespace Hgrn

open Idealize.ShloMosaic

/-- Row `i` of chunk `c` of a block, and column `d` of head `h`. -/
def row (c : Fin 4) (i : Fin 64) : Fin 256 := ⟨64 * c.val + i.val, by omega⟩
def col (h : Fin 4) (d : Fin 128) : Fin 512 := ⟨128 * h.val + d.val, by omega⟩

section
variable (q k v b : Fin 64 → Fin 128 → EReal) (s : Fin 128 → Fin 128 → EReal)

/-- The score of row `i` against row `j`, both measured from the chunk's middle row. -/
def score (i j : Fin 64) : EReal :=
  ∑ d : Fin 128, q i d * Ideal.exp (b i d - b 32 d) * (k j d * Ideal.exp (b 32 d - b j d))

/-- The part of the output that the chunk's own rows give. -/
def inner (i : Fin 64) (e : Fin 128) : EReal :=
  ∑ j : Fin 64, (if j ≤ i then score q k b i j else 0) * v j e

/-- What the chunk adds to the state. -/
def gain (d e : Fin 128) : EReal := ∑ j : Fin 64, k j d * Ideal.exp (b 63 d - b j d) * v j e

/-- The state after the chunk. -/
def next (d e : Fin 128) : EReal := Ideal.exp (b 63 d) * s d e + gain k v b d e

/-- The output of the chunk. -/
def output (i : Fin 64) (e : Fin 128) : EReal :=
  inner q k v b i e + ∑ d : Fin 128, q i d * Ideal.exp (b i d) * s d e

end

/-- A row over the root of its mean square. -/
def normal (o : Fin 128 → EReal) (e : Fin 128) : EReal :=
  o e * Ideal.rsqrt (Ideal.div (∑ d : Fin 128, o d * o d) (Ideal.ofBits .f32 0x43000000#32)
    + Ideal.ofBits .f32 0x358637BD#32)

/-- The running sums of a chunk's rows. -/
def running (l : Fin 64 → Fin 128 → EReal) (i : Fin 64) (d : Fin 128) : EReal :=
  ∑ j : Fin 64, if j ≤ i then l j d else 0

/-! ## The whole layer -/

/-- The forget gate's lower bound: the first of the two softmax weights of each column. -/
def lower (w : Fin 2 → Fin 512 → EReal) (j : Fin 512) : EReal :=
  Ideal.div (Ideal.exp (w 0 j - max (w 0 j) (w 1 j)))
    (Ideal.exp (w 0 j - max (w 0 j) (w 1 j)) + Ideal.exp (w 1 j - max (w 0 j) (w 1 j)))

/-- The forget gate. -/
def forget (w : Fin 2 → Fin 512 → EReal) (f : EReal) (j : Fin 512) : EReal :=
  lower w j + (1 - lower w j) * Ideal.logistic f

def silu (x : EReal) : EReal := x * Ideal.logistic x

/-- Row `i` of chunk `n` of a sequence. -/
def pos (n : ℕ) (i : Fin 64) : Fin 8192 := ⟨(64 * n + i.val) % 8192, Nat.mod_lt _ (by norm_num)⟩

/-- Column `j` of the `a`-th of the four parts of a row of the input projection. -/
def part (a : Fin 4) (j : Fin 512) : Fin 2048 := ⟨512 * a.val + j.val, by omega⟩

section
variable (p : Fin 4 → Fin 8192 → Fin 2048 → EReal) (w : Fin 2 → Fin 512 → EReal) (nw : Fin 512 → EReal)
  (b h : Fin 4) (n : ℕ)

/-- Queries, keys, values and running sums of chunk `n` of sequence `b`, head `h`. -/
def queries (i : Fin 64) (d : Fin 128) : EReal := silu (p b (pos n i) (part 0 (col h d)))
def gates (i : Fin 64) (d : Fin 128) : EReal := forget w (p b (pos n i) (part 1 (col h d))) (col h d)
def keys (i : Fin 64) (d : Fin 128) : EReal := 1 - gates p w b h n i d
def sums : Fin 64 → Fin 128 → EReal := running fun i d => Ideal.log (gates p w b h n i d)
def values (i : Fin 64) (d : Fin 128) : EReal := p b (pos n i) (part 2 (col h d))

/-- The state before chunk `n`. -/
def state : ℕ → Fin 128 → Fin 128 → EReal
  | 0 => fun _ _ => 0
  | n + 1 => next (keys p w b h n) (values p b h n) (sums p w b h n) (state n)

/-- The recurrence's output for chunk `n`, normalised head by head, weighted and gated. -/
def layer (i : Fin 64) (e : Fin 128) : EReal :=
  normal (output (queries p b h n) (keys p w b h n) (values p b h n) (sums p w b h n) (state p w b h n) i) e
    * (silu (p b (pos n i) (part 3 (col h e))) * nw (col h e))

end

/-- The layer at a position `r` of sequence `b` and a column `j`. -/
def whole (p : Fin 4 → Fin 8192 → Fin 2048 → EReal) (w : Fin 2 → Fin 512 → EReal) (nw : Fin 512 → EReal)
    (b : Fin 4) (r : Fin 8192) (j : Fin 512) : EReal :=
  layer p w nw b ⟨j.val / 128, by omega⟩ (r.val / 64) ⟨r.val % 64, by omega⟩ ⟨j.val % 128, by omega⟩

/-! ## The logarithm of a forget gate is not `⊤`, so splitting it in two parts and adding them gives it back -/

theorem logistic_spelled (x : EReal) : Ideal.div 1 (1 + Ideal.exp (0 - x)) = Ideal.logistic x := by
  rw [sub_eq_add_neg, zero_add]; rfl

theorem sub_max_ne_top (x y : EReal) : x - max x y ≠ ⊤ := by
  induction x with
  | bot => simp
  | top => simp
  | coe r =>
    induction y with
    | bot => simp [← EReal.coe_sub]
    | top => simp
    | coe t =>
      rw [← EReal.coe_strictMono.monotone.map_max, ← EReal.coe_sub]
      exact EReal.coe_ne_top _

theorem exp_real (x : EReal) (hx : x ≠ ⊤) : ∃ r : ℝ, 0 ≤ r ∧ Ideal.exp x = (r : EReal) := by
  induction x with
  | bot => exact ⟨0, le_refl _, by simp⟩
  | top => exact absurd rfl hx
  | coe r => exact ⟨Real.exp r, (Real.exp_pos r).le, rfl⟩

theorem logistic_real (x : EReal) : ∃ r : ℝ, Ideal.logistic x = (r : EReal) := by
  induction x with
  | bot => exact ⟨0, by simp [Ideal.logistic_bot]⟩
  | top => exact ⟨1, by simp [Ideal.logistic_top]⟩
  | coe r => exact ⟨_, Ideal.logistic_coe r⟩

theorem lower_ne_top (w : Fin 2 → Fin 512 → EReal) (j : Fin 512) : lower w j ≠ ⊤ := by
  obtain ⟨r, hr, er⟩ := exp_real _ (sub_max_ne_top (w 0 j) (w 1 j))
  obtain ⟨t, ht, et⟩ := exp_real (w 1 j - max (w 0 j) (w 1 j)) (by rw [max_comm]; exact sub_max_ne_top _ _)
  unfold lower
  rw [er, et, ← EReal.coe_add]
  unfold Ideal.div
  split
  · rename_i h0
    have : r + t = 0 := by exact_mod_cast h0
    have hr0 : r = 0 := by linarith
    subst hr0
    simp
  · rw [← EReal.coe_inv, ← EReal.coe_mul]
    exact EReal.coe_ne_top _

theorem forget_ne_top (w : Fin 2 → Fin 512 → EReal) (f : EReal) (j : Fin 512) : forget w f j ≠ ⊤ := by
  unfold forget
  obtain ⟨r, er⟩ := logistic_real f
  have hl := lower_ne_top w j
  rw [er]
  generalize lower w j = l at hl
  induction l with
  | bot => simp
  | top => exact absurd rfl hl
  | coe l =>
    have e1 : (1 : EReal) = ((1 : ℝ) : EReal) := rfl
    rw [e1, ← EReal.coe_sub, ← EReal.coe_mul, ← EReal.coe_add]
    exact EReal.coe_ne_top _

theorem log_ne_top (x : EReal) (hx : x ≠ ⊤) : Ideal.log x ≠ ⊤ := by
  induction x with
  | bot => simp
  | top => exact absurd rfl hx
  | coe r =>
    rw [Ideal.log_coe]
    split <;> simp

theorem split_add (x : EReal) (hx : x ≠ ⊤) : x + (x - x) = x := by
  induction x with
  | bot => simp
  | top => exact absurd rfl hx
  | coe r => rw [← EReal.coe_sub, ← EReal.coe_add]; simp

/-- A sum over the rows of a block, masked to the rows of one chunk up to row `i`. -/
theorem masked_sum (c : Fin 4) (i : Fin 64) (g : Fin 256 → EReal) :
    (∑ x : Fin 256, (if x.val / 64 = c.val ∧ x.val % 64 ≤ i.val then (1 : EReal) else 0) * g x)
      = ∑ j : Fin 64, if j ≤ i then g (row c j) else 0 := by
  rw [← (finProdFinEquiv (m := 4) (n := 64)).sum_comp, Fintype.sum_prod_type, Finset.sum_eq_single c]
  · refine Finset.sum_congr rfl fun j _ => ?_
    have e : (finProdFinEquiv (c, j) : Fin (4 * 64)) = row c j := Fin.ext (by simp [finProdFinEquiv, row]; omega)
    rw [e]
    have h1 : (row c j).val / 64 = c.val := by simp only [row]; omega
    have h2 : (row c j).val % 64 = j.val := by simp only [row]; omega
    rw [h1, h2]
    by_cases hji : j ≤ i
    · rw [if_pos ⟨rfl, hji⟩, if_pos hji, one_mul]
    · rw [if_neg (fun h => hji h.2), if_neg hji, zero_mul]
  · intro c' _ hc
    refine Finset.sum_eq_zero fun j _ => ?_
    have e : (finProdFinEquiv (c', j) : Fin (4 * 64)) = row c' j := Fin.ext (by simp [finProdFinEquiv, row]; omega)
    rw [e]
    have h1 : (row c' j).val / 64 = c'.val := by simp only [row]; omega
    rw [h1, if_neg (fun h => hc (Fin.ext h.1)), zero_mul]
  · intro h; exact absurd (Finset.mem_univ _) h

end Hgrn

end
-- ==== Proof.Hgrn.Read.lean ====
/- The values of one block of rows, read entry by entry. -/
module

public import proofs.«01_k».proof.Proof.Hgrn.Block
public import proofs.«01_k».proof.Proof.Hgrn.Spec

@[expose] public section

set_option maxRecDepth 16384

noncomputable section

namespace Hgrn

open Idealize.ShloMosaic Idealize.ShloMosaic.TcCoe Idealize.SL.Sem
open Cert.KernelIdeal Cert.KernelIdeal.Gen

theorem rows_apply (c : Fin 4) (x : FVec Ideal S256x512 .f32) (i : Fin 64) (j : Fin 512) :
    rows c x (ix2 i j) = x (ix2 (row c i) j) := by
  unfold rows
  rw [Pointwise.extractStridedSlice_apply]
  congr 1
  funext a
  apply Fin.ext
  match a with
  | ⟨0, _⟩ => rfl
  | ⟨1, _⟩ => exact Nat.zero_add _

theorem head_apply (h : Fin 4) (x : FVec Ideal S64x512 .f32) (i : Fin 64) (d : Fin 128) :
    head h x (ix2 i d) = x (ix2 i (col h d)) := by
  unfold head
  rw [Pointwise.extractStridedSlice_apply]
  congr 1
  funext a
  apply Fin.ext
  match a with
  | ⟨0, _⟩ => exact Nat.zero_add _
  | ⟨1, _⟩ => rfl

theorem mid_apply (b : FVec Ideal S64x512 .f32) (z : Fin 1) (j : Fin 512) : mid b (ix2 z j) = b (ix2 32 j) := by
  obtain rfl : z = 0 := Subsingleton.elim _ _
  unfold mid
  pointwise []

theorem last_apply (b : FVec Ideal S64x512 .f32) (z : Fin 1) (j : Fin 512) : last b (ix2 z j) = b (ix2 63 j) := by
  obtain rfl : z = 0 := Subsingleton.elim _ _
  unfold last
  pointwise []

section
variable (q k b v : FVec Ideal S256x512 .f32) (c h : Fin 4)

/-- The rows of chunk `c` and head `h`. -/
def cut (x : FVec Ideal S256x512 .f32) (c h : Fin 4) (i : Fin 64) (d : Fin 128) : EReal := x (ix2 (row c i) (col h d))

theorem qMid_apply (i : Fin 64) (d : Fin 128) :
    qMid q b c h (ix2 i d) = cut q c h i d * Ideal.exp (cut b c h i d - cut b c h 32 d) := by
  unfold qMid cut
  rw [head_apply]
  pointwise [rows_apply, mid_apply]

theorem kMid_apply (i : Fin 64) (d : Fin 128) :
    kMid k b c h (ix2 i d) = cut k c h i d * Ideal.exp (cut b c h 32 d - cut b c h i d) := by
  unfold kMid cut
  rw [head_apply]
  pointwise [rows_apply, mid_apply]

theorem qState_apply (i : Fin 64) (d : Fin 128) :
    qState q b c h (ix2 i d) = cut q c h i d * Ideal.exp (cut b c h i d) := by
  unfold qState cut
  rw [head_apply]
  pointwise [rows_apply]

theorem kLast_apply (i : Fin 64) (d : Fin 128) :
    kLast k b c h (ix2 i d) = cut k c h i d * Ideal.exp (cut b c h 63 d - cut b c h i d) := by
  unfold kLast cut
  rw [head_apply]
  pointwise [rows_apply, last_apply]

theorem vals_apply (i : Fin 64) (d : Fin 128) : vals v c h (ix2 i d) = cut v c h i d := by
  unfold vals cut
  rw [head_apply, rows_apply]

theorem decay_apply (z : Fin 1) (d : Fin 128) : decay b c h (ix2 z d) = Ideal.exp (cut b c h 63 d) := by
  obtain rfl : z = 0 := Subsingleton.elim _ _
  unfold decay cut
  rw [Pointwise.extractStridedSlice_apply]
  refine (congrArg (exp (last (rows c b))) (a₂ := ix2 0 (col h d)) ?_).trans ?_
  · funext a
    apply Fin.ext
    match a with
    | ⟨0, _⟩ => rfl
    | ⟨1, _⟩ => rfl
  · pointwise [rows_apply, last_apply]

theorem causal_word (i j : Fin 64) :
    IntOp.cmpi .sle (BitVec.ofNat 32 j.val) (BitVec.ofNat 32 i.val) = if j ≤ i then 1#1 else 0#1 := by
  revert i j; decide +kernel

theorem scores_apply (i j : Fin 64) :
    scores q k b c h (ix2 i j) = if j ≤ i then score (cut q c h) (cut k c h) (cut b c h) i j else 0 := by
  unfold scores score k0_pay13
  pointwise [qMid_apply, kMid_apply]
  rw [causal_word]
  by_cases hji : j ≤ i
  · rw [if_pos hji, if_pos hji]; rfl
  · rw [if_neg hji, if_neg hji]; rfl

theorem update_apply (e d : Fin 128) :
    update k b v c h (ix2 e d) = gain (cut k c h) (cut v c h) (cut b c h) d e := by
  unfold update gain
  pointwise [kLast_apply, vals_apply]
  exact Finset.sum_congr rfl fun j _ => mul_comm _ _

theorem stateNext_apply (s : FVec Ideal S128x128 .f32) (e d : Fin 128) :
    stateNext k b v c h s (ix2 e d) = next (cut k c h) (cut v c h) (cut b c h) (fun d e => s (ix2 e d)) d e := by
  unfold stateNext next
  pointwise [update_apply, decay_apply]
  rw [mul_comm]

theorem mixed_apply (s : FVec Ideal S128x128 .f32) (i : Fin 64) (e : Fin 128) :
    mixed q k b v c h s (ix2 i e)
      = output (cut q c h) (cut k c h) (cut v c h) (cut b c h) (fun d e => s (ix2 e d)) i e := by
  unfold mixed output inner
  pointwise [scores_apply, vals_apply, qState_apply]

end

theorem normed_apply (o : FVec Ideal S64x128 .f32) (i : Fin 64) (e : Fin 128) :
    normed o (ix2 i e) = normal (fun d => o (ix2 i d)) e := by
  unfold normed normal
  pointwise []

section
variable (q k b v : FVec Ideal S256x512 .f32)

theorem chunkOut_apply (s : Fin 4 → FVec Ideal S128x128 .f32) (c h : Fin 4) (i : Fin 64) (e : Fin 128) :
    chunkOut q k b v s c (ix2 i (col h e))
      = normal (output (cut q c h) (cut k c h) (cut v c h) (cut b c h)
          (fun d e => stateAt k b v (s h) h c.val (ix2 e d)) i) e := by
  unfold chunkOut
  rw [concatenate_apply]
  fin_cases h <;> pointwise [normed_apply, mixed_apply, col]
  · rw [dif_neg (by omega), dif_neg (by omega), dif_pos (by omega)]
    congr 1
    apply Fin.ext
    show 256 + e.val - 128 - 128 = e.val
    omega
  · rw [dif_neg (by omega), dif_neg (by omega), dif_neg (by omega)]
    congr 1
    apply Fin.ext
    show 384 + e.val - 128 - 128 - 128 = e.val
    omega

theorem blockOut_apply (s : Fin 4 → FVec Ideal S128x128 .f32) (g : FVec Ideal S256x512 .f32) (c : Fin 4) (i : Fin 64) (j : Fin 512) :
    blockOut q k b v s g (ix2 (row c i) j) = chunkOut q k b v s c (ix2 i j) * g (ix2 (row c i) j) := by
  unfold blockOut
  pointwise []
  congr 1
  fin_cases c <;> pointwise [row]
  · rw [dif_neg (by omega), dif_neg (by omega), dif_pos (by omega)]
    congr 2
    apply Fin.ext
    show 128 + i.val - 64 - 64 = i.val
    omega
  · rw [dif_neg (by omega), dif_neg (by omega), dif_neg (by omega)]
    congr 2
    apply Fin.ext
    show 192 + i.val - 64 - 64 - 64 = i.val
    omega

/-- The states of a block's chunks follow the recurrence that the chunks before them began. -/
theorem stateAt_apply (s : FVec Ideal S128x128 .f32) (h : Fin 4) (K V B : ℕ → Fin 64 → Fin 128 → EReal)
    (S : ℕ → Fin 128 → Fin 128 → EReal) (hS : ∀ n, S (n + 1) = next (K n) (V n) (B n) (S n)) (z : ℕ)
    (hs : ∀ e d, s (ix2 e d) = S z d e) (hk : ∀ c : Fin 4, cut k c h = K (z + c.val))
    (hv : ∀ c : Fin 4, cut v c h = V (z + c.val)) (hb : ∀ c : Fin 4, cut b c h = B (z + c.val)) :
    ∀ n, n ≤ 4 → ∀ e d, stateAt k b v s h n (ix2 e d) = S (z + n) d e
  | 0, _, e, d => hs e d
  | n + 1, hn, e, d => by
    have ih := stateAt_apply s h K V B S hS z hs hk hv hb n (by omega)
    rw [stateAt, dif_pos (by omega), stateNext_apply, hk, hv, hb]
    show _ = S (z + n + 1) d e
    rw [hS]
    congr 1
    funext d e
    exact ih e d

end

end Hgrn

end
-- ==== Proof.Hgrn.Operands.lean ====
/- The operands of one block of rows, entry by entry, from the layer's arguments. -/
module

public import proofs.«01_k».proof.Proof.Hgrn.Read
public import proofs.«01_k».proof.Proof.Hgrn.Cases

@[expose] public section

set_option maxRecDepth 16384

noncomputable section

namespace Hgrn

open Idealize.ShloMosaic Idealize.ShloMosaic.TcCoe Idealize.SL.Sem
open Cert.KernelIdeal Cert.KernelIdeal.Gen

section
variable (p : Vec Ideal S1x256x2048 .f32) (lbp : Vec Ideal S2x512 .f32) (nw : Vec Ideal S1x512 .f32) (tri : Vec Ideal S256x256 .bf16)
  (s : Vec Ideal S4x128x128 .f32) (r : Fin 256) (j : Fin 512)

theorem part_zero : part 0 j = ⟨j.val, by omega⟩ := Fin.ext (by simp [part])

theorem qOf_apply : qOf p (ix2 r j) = silu (p (ix3 0 r (part 0 j))) := by
  unfold qOf k0_pay6 silu
  pointwise []
  rw [logistic_spelled, part_zero]

theorem lower_apply (z : Fin 1) : k0_pay3 lbp (ix2 z j) = lower (fun a j => lbp (ix2 a j)) j := by
  obtain rfl : z = 0 := Subsingleton.elim _ _
  unfold k0_pay3 lower
  pointwise []

theorem gate_apply : k0_pay9 (k0_pay3 lbp) (k0_pay7 lbp) (eOf p) (ix2 r j)
    = forget (fun a j => lbp (ix2 a j)) (p (ix3 0 r (part 1 j))) j := by
  unfold k0_pay9 k0_pay7 eOf k0_pay8 forget
  pointwise [lower_apply]
  rw [logistic_spelled]
  rfl

theorem kOf_apply : kOf p lbp (ix2 r j) = 1 - forget (fun a j => lbp (ix2 a j)) (p (ix3 0 r (part 1 j))) j := by
  unfold kOf k0_pay10
  pointwise [gate_apply]

theorem vOf_apply : vOf p (ix2 r j) = p (ix3 0 r (part 2 j)) := by
  unfold vOf k0_pay4
  pointwise []
  rfl

theorem gOf_apply : gOf p nw (ix2 r j) = silu (p (ix3 0 r (part 3 j))) * nw (ix2 0 j) := by
  unfold gOf k0_pay12 k0_pay5 silu
  pointwise []
  rw [logistic_spelled]
  rfl

/-- Against the block triangular matrix of ones, the two products add up to the running sums of the logarithms. -/
theorem bOf_apply (c : Fin 4) (i : Fin 64)
    (htri : ∀ x : Fin 256, tri (ix2 (row c i) x) = if x.val / 64 = c.val ∧ x.val % 64 ≤ i.val then (1 : EReal) else 0) :
    bOf p lbp tri (ix2 (row c i) j)
      = ∑ k : Fin 64, if k ≤ i then Ideal.log (forget (fun a j => lbp (ix2 a j)) (p (ix3 0 (row c k) (part 1 j))) j) else 0 := by
  unfold bOf k0_pay11
  pointwise [gate_apply]
  rw [← Finset.sum_add_distrib, ← masked_sum c i fun x => Ideal.log (forget (fun a j => lbp (ix2 a j)) (p (ix3 0 x (part 1 j))) j)]
  refine Finset.sum_congr rfl fun x _ => ?_
  rw [htri x]
  split
  · rw [one_mul, one_mul, split_add _ (log_ne_top _ (forget_ne_top _ _ _))]
  · rw [zero_mul, zero_mul, add_zero]

theorem headState_apply (h : Fin 4) (e d : Fin 128) : headState s h (ix2 e d) = s (ix3 h e d) := by
  unfold headState k0_pay205
  pointwise []

end

end Hgrn

end
-- ==== Proof.Hgrn.Mask.lean ====
/- The block triangular matrix of ones that the host makes for the kernel. -/
module

public import proofs.«01_k».proof.Proof.Hgrn.Operands
public import proofs.«01_k».proof.Proof.Gen.KernelIdeal.Value
public import Idealize.ShloMosaic.Lib.StableHlo.RunRead

@[expose] public section

set_option maxRecDepth 16384

noncomputable section

namespace Hgrn

open Idealize.ShloMosaic Idealize.ShloMosaic.TcCoe Idealize.ShloMosaic.StableHlo Idealize.SL.Sem
open Cert.KernelIdeal Cert.KernelIdeal.Gen

/-- The identity of the four chunks of a block, and the lower triangle of one chunk. -/
def sameChunk : FVec Ideal S4x4 .bf16 :=
  uitofp .bf16 (cmpi .eq (addi (iotaInDim S4x4 32 0) (broadcastInDim S4x4 ![] bcast_S_S4x4 (constantI S_ 32 0#32))) (iotaInDim S4x4 32 1))
def onesChunk : FVec Ideal S64x64 .bf16 := broadcastInDim S64x64 ![] bcast_S_S64x64 (constant S_ .bf16 0x3F80#16)
def lowerChunk (o : FVec Ideal S64x64 .bf16) : FVec Ideal S64x64 .bf16 :=
  select (cmpi .sge (addi (iotaInDim S64x64 32 0) (broadcastInDim S64x64 ![] bcast_S_S64x64 (constantI S_ 32 0#32))) (iotaInDim S64x64 32 1))
    o (broadcastInDim S64x64 ![] bcast_S_S64x64 (constant S_ .bf16 0x0000#16))
def product (a : FVec Ideal S4x4 .bf16) (t : FVec Ideal S64x64 .bf16) : FVec Ideal S256x256 .bf16 :=
  shapeCast S256x256 (mulf
    (broadcastInDim S4x64x4x64 ![0, 1, 2, 3] bcast_S4x1x4x1_S4x64x4x64_0_1_2_3 (broadcastInDim S4x1x4x1 ![0, 2] bcast_S4x4_S4x1x4x1_0_2 a))
    (broadcastInDim S4x64x4x64 ![0, 1, 2, 3] bcast_S1x64x1x64_S4x64x4x64_0_1_2_3 (broadcastInDim S1x64x1x64 ![1, 3] bcast_S64x64_S1x64x1x64_1_3 t)))
    shapeCasts_S4x64x4x64_S256x256

section
variable (X : Valuation τ sig (Elt Ideal))

theorem first_same : after hostOps0 X (Proc.devRef .tc main_v5) = sameChunk := by
  after_reads_simp
  try rfl
theorem first_ones : after hostOps0 X (Proc.devRef .tc main_v6) = onesChunk := by
  after_reads_simp
  try rfl
theorem second_same : after hostOps0_1 X (Proc.devRef .tc main_v5) = X (Proc.devRef .tc main_v5) := by
  after_reads_simp
theorem second_lower : after hostOps0_1 X (Proc.devRef .tc main_v7) = lowerChunk (X (Proc.devRef .tc main_v6)) := by
  after_reads_simp
  try rfl
theorem third_mask : after hostOps0_2 X (Proc.devRef .tc main_v8)
    = product (X (Proc.devRef .tc main_v5)) (X (Proc.devRef .tc main_v7)) := by
  after_reads_simp
  try rfl

end

def mask : FVec Ideal S256x256 .bf16 := product sameChunk (lowerChunk onesChunk)

theorem mask_eq (m : (ℓ : Loc nD τ sig) → Buf (Elt Ideal) ℓ) (c : Dev nD) :
    V m c main_v8 = mask := by
  show (after hostOps0_2 (after hostOps0_1 (after hostOps0 (fun b => m (c, b)))) (Proc.devRef .tc main_v8) : FVec Ideal S256x256 .bf16) = mask
  rw [third_mask, second_same, second_lower, first_same, first_ones]
  rfl

theorem same_word : ∀ a b : Fin 4, IntOp.cmpi CmpIPredicate.eq (IntOp.addi (BitVec.ofNat 32 a.val) 0#32) (BitVec.ofNat 32 b.val) = if b = a then 1#1 else 0#1 := by
  decide +kernel
theorem lower_word : ∀ a b : Fin 64, IntOp.cmpi CmpIPredicate.sge (IntOp.addi (BitVec.ofNat 32 a.val) 0#32) (BitVec.ofNat 32 b.val) = if b ≤ a then 1#1 else 0#1 := by
  decide +kernel

theorem same_apply (a b : Fin 4) : sameChunk (ix2 a b) = if b = a then 1 else 0 := by
  unfold sameChunk
  pointwise []
  rw [same_word]
  show ((BitVec.toNat _ : ℝ) : EReal) = _
  split <;> simp
theorem lower_apply' (a b : Fin 64) : lowerChunk onesChunk (ix2 a b) = if b ≤ a then 1 else 0 := by
  unfold lowerChunk onesChunk
  pointwise []
  rw [lower_word]
  unfold Scalar.select
  split <;> simp

theorem mask_apply (c : Fin 4) (i : Fin 64) (x : Fin 256) :
    mask (ix2 (row c i) x) = if x.val / 64 = c.val ∧ x.val % 64 ≤ i.val then (1 : EReal) else 0 := by
  unfold mask product
  pointwise [same_apply, lower_apply']
  have h1 : (row c i).val / 64 = c.val := by simp only [row]; omega
  have h2 : (row c i).val % 64 = i.val := by simp only [row]; omega
  simp only [h1, h2, Fin.mk.injEq, Fin.mk_le_mk]
  by_cases ha : x.val / 64 = c.val
  · by_cases hb : x.val % 64 ≤ i.val
    · rw [if_pos ha, if_pos hb, if_pos ⟨ha, hb⟩, one_mul]
    · rw [if_pos ha, if_neg hb, if_neg (fun h => hb h.2), one_mul]
  · rw [if_neg ha, zero_mul, if_neg (fun h => ha h.1)]

end Hgrn

end
-- ==== Proof.Hgrn.Point.lean ====
/- One grid point against the layer: its output block and the state it carries on. -/
module

public import proofs.«01_k».proof.Proof.Hgrn.Operands
public import Idealize.ShloMosaic.Lib.Pipeline.ReadBack

@[expose] public section

set_option maxRecDepth 16384

noncomputable section

namespace Hgrn

open Idealize.ShloMosaic Idealize.ShloMosaic.TcCoe Idealize.SL.Sem
open Cert.KernelIdeal Cert.KernelIdeal.Gen

/-- The four heads' stores into the carried state. -/
def headStores (S : Fin 4 → FVec Ideal S128x128 .f32) : List (View.Piece (Elt Ideal) S4x128x128 .f32) := [
  ⟨Rect.unit ![3, 0, 0] ![1, 128, 128] inb_S4x128x128_S1x128x128_3_0_0, k0_pay247 (S 3)⟩,
  ⟨Rect.unit ![2, 0, 0] ![1, 128, 128] inb_S4x128x128_S1x128x128_2_0_0, k0_pay247 (S 2)⟩,
  ⟨Rect.unit ![1, 0, 0] ![1, 128, 128] inb_S4x128x128_S1x128x128_1_0_0, k0_pay247 (S 1)⟩,
  ⟨Rect.unit ![0, 0, 0] ![1, 128, 128] inb_S4x128x128_S1x128x128_0_0_0, k0_pay247 (S 0)⟩]

theorem headStore_apply (a : FVec Ideal S128x128 .f32) (z : Fin 1) (e d : Fin 128) :
    (k0_pay247 a : FVec Ideal S1x128x128 .f32) (ix3 z e d) = a (ix2 e d) := by
  unfold k0_pay247
  pointwise []

theorem headStore_eq (S : Fin 4 → FVec Ideal S128x128 .f32) (h : Fin 4)
    (inb : ∀ a, (![h.val, 0, 0] : Fin 3 → Nat) a + (![1, 128, 128] : Fin 3 → Nat) a ≤ S4x128x128.size a) (x : S1x128x128.Idx) :
    (k0_pay247 (S h) : FVec Ideal S1x128x128 .f32) x
      = (fun i : S4x128x128.Idx => S (i 0) (ix2 (i 1) (i 2))) ((Rect.unit (s := S4x128x128) ![h.val, 0, 0] ![1, 128, 128] inb).emb x) := by
  obtain ⟨z, e, d, rfl⟩ : ∃ (z : Fin 1) (e d : Fin 128), x = ix3 z e d := ⟨x 0, x 1, x 2, eq_ix3 _⟩
  rw [headStore_apply]
  have h0 : ((Rect.unit (s := S4x128x128) ![h.val, 0, 0] ![1, 128, 128] inb).emb (ix3 z e d)) 0 = h :=
    Fin.ext (by show h.val + 1 * z.val = h.val; omega)
  have h1 : ((Rect.unit (s := S4x128x128) ![h.val, 0, 0] ![1, 128, 128] inb).emb (ix3 z e d)) 1 = e :=
    Fin.ext (by show 0 + 1 * e.val = e.val; omega)
  have h2 : ((Rect.unit (s := S4x128x128) ![h.val, 0, 0] ![1, 128, 128] inb).emb (ix3 z e d)) 2 = d :=
    Fin.ext (by show 0 + 1 * d.val = d.val; omega)
  dsimp only
  rw [h0, h1, h2]

theorem mem_headStore (h : Fin 4)
    (inb : ∀ a, (![h.val, 0, 0] : Fin 3 → Nat) a + (![1, 128, 128] : Fin 3 → Nat) a ≤ S4x128x128.size a) (e d : Fin 128) :
    (ix3 h e d : S4x128x128.Idx) ∈ (Rect.unit (s := S4x128x128) ![h.val, 0, 0] ![1, 128, 128] inb).set := by
  rw [Rect.mem_set_unit]
  intro a
  match a with
  | ⟨0, _⟩ => exact ⟨le_refl h.val, by show h.val < h.val + 1; omega⟩
  | ⟨1, _⟩ => exact ⟨Nat.zero_le _, by show e.val < 0 + 128; omega⟩
  | ⟨2, _⟩ => exact ⟨Nat.zero_le _, by show d.val < 0 + 128; omega⟩

/-- Over any earlier stores, the carried state holds each head's. -/
theorem headStores_apply (S : Fin 4 → FVec Ideal S128x128 .f32) (L : List (View.Piece (Elt Ideal) S4x128x128 .f32))
    (h : Fin 4) (e d : Fin 128) : View.canon (headStores S ++ L) (ix3 h e d) = S h (ix2 e d) := by
  refine View.canon_append_of_piecesOf (fun i : S4x128x128.Idx => S (i 0) (ix2 (i 1) (i 2))) L (headStores S)
    ⟨fun x => headStore_eq S 3 inb_S4x128x128_S1x128x128_3_0_0 x, fun x => headStore_eq S 2 inb_S4x128x128_S1x128x128_2_0_0 x, fun x => headStore_eq S 1 inb_S4x128x128_S1x128x128_1_0_0 x, fun x => headStore_eq S 0 inb_S4x128x128_S1x128x128_0_0_0 x, trivial⟩
    (ix3 h e d) ?_
  unfold headStores
  fin_cases h
  · exact ⟨_, .tail _ (.tail _ (.tail _ (.head _))), mem_headStore 0 inb_S4x128x128_S1x128x128_0_0_0 e d⟩
  · exact ⟨_, .tail _ (.tail _ (.head _)), mem_headStore 1 inb_S4x128x128_S1x128x128_1_0_0 e d⟩
  · exact ⟨_, .tail _ (.head _), mem_headStore 2 inb_S4x128x128_S1x128x128_2_0_0 e d⟩
  · exact ⟨_, .head _, mem_headStore 3 inb_S4x128x128_S1x128x128_3_0_0 e d⟩

section
variable (p : Vec Ideal S1x256x2048 .f32) (lbp : Vec Ideal S2x512 .f32) (nw : Vec Ideal S1x512 .f32) (tri : Vec Ideal S256x256 .bf16)
  (s : Vec Ideal S4x128x128 .f32)
  (P : Fin 4 → Fin 8192 → Fin 2048 → EReal) (W : Fin 2 → Fin 512 → EReal) (N : Fin 512 → EReal) (b : Fin 4) (q : ℕ)
  (hp : ∀ (c : Fin 4) (i : Fin 64) j, p (ix3 0 (row c i) j) = P b (pos (4 * q + c.val) i) j)
  (hl : ∀ a j, lbp (ix2 a j) = W a j) (hn : ∀ j, nw (ix2 0 j) = N j)
  (htri : ∀ c i (x : Fin 256), tri (ix2 (row c i) x) = if x.val / 64 = c.val ∧ x.val % 64 ≤ i.val then (1 : EReal) else 0)
  (hs : ∀ h e d, s (ix3 h e d) = state P W b h (4 * q) d e)
include hp

theorem cut_q (c h : Fin 4) : cut (qOf p) c h = queries P b h (4 * q + c.val) := by
  funext i d
  unfold cut queries
  rw [qOf_apply, hp]

theorem cut_v (c h : Fin 4) : cut (vOf p) c h = values P b h (4 * q + c.val) := by
  funext i d
  unfold cut values
  rw [vOf_apply, hp]

include hl

theorem cut_k (c h : Fin 4) : cut (kOf p lbp) c h = keys P W b h (4 * q + c.val) := by
  funext i d
  unfold cut keys gates
  rw [kOf_apply, hp, show (fun a j => lbp (ix2 a j)) = W from funext fun a => funext fun j => hl a j]

include htri

theorem cut_b (c h : Fin 4) : cut (bOf p lbp tri) c h = sums P W b h (4 * q + c.val) := by
  funext i d
  unfold cut sums running gates
  rw [bOf_apply _ _ _ _ c i (htri c i), show (fun a j => lbp (ix2 a j)) = W from funext fun a => funext fun j => hl a j]
  refine Finset.sum_congr rfl fun k _ => ?_
  rw [hp]

include hs

/-- The state before each chunk of the point, and after its last. -/
theorem state_at (h : Fin 4) (n : ℕ) (hn4 : n ≤ 4) (e d : Fin 128) :
    stateAt (kOf p lbp) (bOf p lbp tri) (vOf p) (headState s h) h n (ix2 e d) = state P W b h (4 * q + n) d e :=
  stateAt_apply _ _ _ (headState s h) h (keys P W b h) (values P b h) (sums P W b h) (state P W b h) (fun _ => rfl) (4 * q)
    (fun e d => (headState_apply s h e d).trans (hs h e d)) (fun c => cut_k p lbp P W b q hp hl c h)
    (fun c => cut_v p P b q hp c h) (fun c => cut_b p lbp tri P W b q hp hl htri c h) n hn4 e d

theorem carried_apply (L : List (View.Piece (Elt Ideal) S4x128x128 .f32)) (h : Fin 4) (e d : Fin 128) :
    View.canon (headStores (fun h => stateAt (kOf p lbp) (bOf p lbp tri) (vOf p) (headState s h) h 4) ++ L) (ix3 h e d)
      = state P W b h (4 * (q + 1)) d e := by
  rw [headStores_apply]
  exact state_at p lbp tri s P W b q hp hl htri hs h 4 (le_refl _) e d

include hn

theorem written_apply (c h : Fin 4) (i : Fin 64) (e : Fin 128) :
    (k0_pay1 (blockOut (qOf p) (kOf p lbp) (bOf p lbp tri) (vOf p) (headState s) (gOf p nw)) : FVec Ideal S1x256x512 .bf16)
        (ix3 0 (row c i) (col h e))
      = layer P W N b h (4 * q + c.val) i e := by
  unfold k0_pay1
  pointwise [blockOut_apply]
  rw [chunkOut_apply, gOf_apply, cut_q p P b q hp, cut_v p P b q hp, cut_k p lbp P W b q hp hl,
    cut_b p lbp tri P W b q hp hl htri, hp, hn]
  unfold layer
  rw [show (fun d e => stateAt (kOf p lbp) (bOf p lbp tri) (vOf p) (headState s h) h c.val (ix2 e d)) = state P W b h (4 * q + c.val)
    from funext fun d => funext fun e => state_at p lbp tri s P W b q hp hl htri hs h c.val (by omega) e d]

end

end Hgrn

end
-- ==== Proof.Hgrn.Final.lean ====
/- The recurrence's kernel, over all points: the state it carries and its whole result. -/
module

public import proofs.«01_k».proof.Proof.Hgrn.Cases
public import proofs.«01_k».proof.Proof.Hgrn.Mask
public import proofs.«01_k».proof.Proof.Hgrn.Point

@[expose] public section

set_option maxRecDepth 16384

noncomputable section

namespace Hgrn

open Idealize.ShloMosaic Idealize.ShloMosaic.TcCoe Idealize.SL.Sem
open Cert.KernelIdeal Cert.KernelIdeal.Gen

theorem points : cfg0.N = 128 := N_0
theorem point_lt (t : Fin cfg0.N) : t.val < 128 := lt_of_lt_of_eq t.isLt points

section
variable (m : (ℓ : Loc nD τ sig) → Buf (Elt Ideal) ℓ) (c : Dev nD)

/-- The arguments by coordinates. -/
def kerP (b : Fin 4) (r : Fin 8192) (j : Fin 2048) : EReal :=
  (m (c.tc.loc main_arg0) : FVec Ideal S4x8192x2048 .f32) (ix3 b r j)
def kerW (a : Fin 2) (j : Fin 512) : EReal := (m (c.tc.loc main_arg1) : FVec Ideal S2x512 .f32) (ix2 a j)
def kerN (j : Fin 512) : EReal := (m (c.tc.loc main_arg2) : FVec Ideal S1x512 .f32) (ix2 0 j)

theorem index_p : ∀ t : Fin cfg0.N, win0_0.index t 0 = t.val / 32 ∧ win0_0.index t 1 = t.val % 32 ∧ win0_0.index t 2 = 0 := by
  decide +kernel
theorem index_w : ∀ t : Fin cfg0.N, win0_1.index t 0 = 0 ∧ win0_1.index t 1 = 0 := by decide +kernel
theorem index_n : ∀ t : Fin cfg0.N, win0_2.index t 0 = 0 ∧ win0_2.index t 1 = 0 := by decide +kernel
theorem index_m : ∀ t : Fin cfg0.N, win0_3.index t 0 = 0 ∧ win0_3.index t 1 = 0 := by decide +kernel

def seqOf (t : Fin cfg0.N) : Fin 4 := ⟨t.val / 32, by have := point_lt t; omega⟩

theorem block_p (t : Fin cfg0.N) (k : Fin 4) (i : Fin 64) (j : Fin 2048) :
    (iblk m c 0 t : Vec Ideal S1x256x2048 .f32) (ix3 0 (row k i) j) = kerP m c (seqOf t) (pos (4 * (t.val % 32) + k.val) i) j := by
  have hi := index_p t
  have ht := point_lt t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 32; rw [hi.1]; omega
  | ⟨1, _⟩ =>
    show win0_0.index t 1 * 256 + 1 * (64 * k.val + i.val) = (64 * (4 * (t.val % 32) + k.val) + i.val) % 8192
    rw [hi.2.1]; omega
  | ⟨2, _⟩ => show win0_0.index t 2 * 2048 + 1 * j.val = j.val; rw [hi.2.2]; omega

theorem block_w (t : Fin cfg0.N) (a : Fin 2) (j : Fin 512) :
    (iblk m c 1 t : Vec Ideal S2x512 .f32) (ix2 a j) = kerW m c a j := by
  have hi := index_w t
  unfold iblk
  rw [View.read_apply]
  show V m c main_arg1 _ = m (c.tc.loc main_arg1) _
  rw [V_main_arg1]
  congr 1
  funext x
  apply Fin.ext
  match x with
  | ⟨0, _⟩ => show win0_1.index t 0 * 2 + 1 * a.val = a.val; rw [hi.1]; omega
  | ⟨1, _⟩ => show win0_1.index t 1 * 512 + 1 * j.val = j.val; rw [hi.2]; omega

theorem block_n (t : Fin cfg0.N) (j : Fin 512) :
    (iblk m c 2 t : Vec Ideal S1x512 .f32) (ix2 0 j) = kerN m c j := by
  have hi := index_n t
  unfold iblk
  rw [View.read_apply]
  show V m c main_arg2 _ = m (c.tc.loc main_arg2) _
  rw [V_main_arg2]
  congr 1
  funext x
  apply Fin.ext
  match x with
  | ⟨0, _⟩ => show win0_2.index t 0 * 1 + 1 * 0 = 0; rw [hi.1]
  | ⟨1, _⟩ => show win0_2.index t 1 * 512 + 1 * j.val = j.val; rw [hi.2]; omega

theorem block_m (t : Fin cfg0.N) (k : Fin 4) (i : Fin 64) (x : Fin 256) :
    (iblk m c 3 t : Vec Ideal S256x256 .bf16) (ix2 (row k i) x)
      = if x.val / 64 = k.val ∧ x.val % 64 ≤ i.val then (1 : EReal) else 0 := by
  have hi := index_m t
  rw [← mask_apply]
  unfold iblk
  rw [View.read_apply]
  show V m c main_v8 _ = _
  rw [mask_eq]
  congr 1
  funext a
  apply Fin.ext
  match a with
  | ⟨0, _⟩ => show win0_3.index t 0 * 256 + 1 * (row k i).val = (row k i).val; rw [hi.1]; omega
  | ⟨1, _⟩ => show win0_3.index t 1 * 256 + 1 * x.val = x.val; rw [hi.2]; omega

theorem zero_state (h : Fin 4) (e d : Fin 128) : (k0_pay2 (F := Ideal)) (ix3 h e d) = 0 := by
  unfold k0_pay2
  pointwise []

/-- The two cases' first and second components at a point, over the state the point starts from. -/
theorem point_step (t : Fin cfg0.N) : ∃ s : Vec Ideal S4x128x128 .f32,
    (∀ h e d, (t.val % 32 = 0 → s (ix3 h e d) = 0)
      ∧ (t.val % 32 ≠ 0 → s (ix3 h e d) = (outsAt0 m c (t.val - 1) (Nat.lt_of_le_of_lt (Nat.sub_le _ _) t.isLt)).2 (ix3 h e d)))
    ∧ (outsAt0 m c t.val t.isLt).1 = k0_pay1 (blockOut (qOf (iblk m c 0 t)) (kOf (iblk m c 0 t) (iblk m c 1 t))
        (bOf (iblk m c 0 t) (iblk m c 1 t) (iblk m c 3 t)) (vOf (iblk m c 0 t)) (headState s) (gOf (iblk m c 0 t) (iblk m c 2 t)))
    ∧ ∃ L, (outsAt0 m c t.val t.isLt).2 = View.canon (headStores (fun h => stateAt (kOf (iblk m c 0 t) (iblk m c 1 t))
        (bOf (iblk m c 0 t) (iblk m c 1 t) (iblk m c 3 t)) (vOf (iblk m c 0 t)) (headState s h) h 4) ++ L) := by
  by_cases h0 : t.val % 32 = 0
  · refine ⟨k0_pay2 (F := Ideal), fun h e d => ⟨fun _ => zero_state h e d, fun hc => absurd h0 hc⟩, ?_, ?_⟩
    · rw [outsAt0_A m c t h0]
      dsimp only
      rw [out_first]
    · refine ⟨[⟨Rect.unit ![0, 0, 0] ![4, 128, 128] inb_S4x128x128_S4x128x128_0_0_0, k0_pay2 (F := Ideal)⟩], ?_⟩
      rw [outsAt0_A m c t h0]
      dsimp only
      rw [carried_first]
      rfl
  · refine ⟨_, fun h e d => ⟨fun hc => absurd hc h0, fun _ => rfl⟩, ?_, ?_⟩
    · rw [outsAt0_B m c t h0]
      dsimp only
      rw [out_next]
    · refine ⟨[], ?_⟩
      rw [outsAt0_B m c t h0]
      dsimp only
      rw [carried_next]
      rfl

/-- A point starts from the state before its first chunk and leaves the state after its last. -/
theorem carried_state : ∀ (n : ℕ) (hn : n < cfg0.N) (h : Fin 4) (e d : Fin 128),
    (outsAt0 m c n hn).2 (ix3 h e d) = state (kerP m c) (kerW m c) (seqOf ⟨n, hn⟩) h (4 * (n % 32 + 1)) d e := by
  intro n
  induction n with
  | zero =>
    intro hn h e d
    obtain ⟨s, hs, -, L, h2⟩ := point_step m c ⟨0, hn⟩
    rw [show outsAt0 m c 0 hn = outsAt0 m c (⟨0, hn⟩ : Fin cfg0.N).val (⟨0, hn⟩ : Fin cfg0.N).isLt from rfl, h2]
    exact carried_apply _ _ _ s _ _ (seqOf ⟨0, hn⟩) 0 (block_p m c ⟨0, hn⟩) (block_w m c _) (block_m m c _)
      (fun h e d => ((hs h e d).1 rfl)) L h e d
  | succ n ih =>
    intro hn h e d
    obtain ⟨s, hs, -, L, h2⟩ := point_step m c ⟨n + 1, hn⟩
    rw [show outsAt0 m c (n + 1) hn = outsAt0 m c (⟨n + 1, hn⟩ : Fin cfg0.N).val (⟨n + 1, hn⟩ : Fin cfg0.N).isLt from rfl, h2]
    refine carried_apply _ _ _ s _ _ (seqOf ⟨n + 1, hn⟩) ((n + 1) % 32) (block_p m c ⟨n + 1, hn⟩) (block_w m c _) (block_m m c _)
      (fun h e d => ?_) L h e d
    by_cases h0 : (n + 1) % 32 = 0
    · rw [(hs h e d).1 h0, h0]; rfl
    · rw [(hs h e d).2 h0]
      show (outsAt0 m c n _).2 (ix3 h e d) = _
      rw [ih]
      have e1 : seqOf ⟨n + 1, hn⟩ = seqOf ⟨n, Nat.lt_of_succ_lt hn⟩ := Fin.ext (by show (n + 1) / 32 = n / 32; omega)
      have e2 : (n + 1) % 32 = n % 32 + 1 := by omega
      rw [e1, e2]

/-- The block a point writes. -/
theorem written (t : Fin cfg0.N) (k h : Fin 4) (i : Fin 64) (e : Fin 128) :
    (outsAt0 m c t.val t.isLt).1 (ix3 0 (row k i) (col h e))
      = layer (kerP m c) (kerW m c) (kerN m c) (seqOf t) h (4 * (t.val % 32) + k.val) i e := by
  obtain ⟨s, hs, h1, -⟩ := point_step m c t
  rw [h1]
  refine written_apply _ _ _ _ s _ _ _ (seqOf t) (t.val % 32) (block_p m c t) (block_w m c t) (block_n m c t) (block_m m c t)
    (fun h e d => ?_) k h i e
  by_cases h0 : t.val % 32 = 0
  · rw [(hs h e d).1 h0, h0]; rfl
  · rw [(hs h e d).2 h0, carried_state]
    have e1 : seqOf ⟨t.val - 1, Nat.lt_of_le_of_lt (Nat.sub_le _ _) t.isLt⟩ = seqOf t :=
      Fin.ext (by show (t.val - 1) / 32 = t.val / 32; omega)
    have e2 : (t.val - 1) % 32 + 1 = t.val % 32 := by omega
    rw [e1, e2]

/-- The whole result. -/
def result : FVec Ideal S4x8192x512 .bf16 := fun i => whole (kerP m c) (kerW m c) (kerN m c) (i 0) (i 1) (i 2)

theorem result_eq : (Cert.KernelIdeal.Value.G4 m c : FVec Ideal S4x8192x512 .bf16) = result m c := by
  funext i
  obtain ⟨b, r, j, rfl⟩ : ∃ (b : Fin 4) (r : Fin 8192) (j : Fin 512), i = ix3 b r j := ⟨i 0, i 1, i 2, eq_ix3 _⟩
  have hpt : Cert.KernelIdeal.Value.pt4Of (ix3 b r j) = 32 * b.val + r.val / 256 := by
    show 32 * (b.val / 1 - 0) + 1 * (r.val / 256 - 0) + 1 * (j.val / 512 - 0) = _
    omega
  have hlt : Cert.KernelIdeal.Value.pt4Of (ix3 b r j) < cfg0.N := by
    rw [hpt]; exact lt_of_lt_of_eq (show 32 * b.val + r.val / 256 < 128 by omega) points.symm
  unfold Cert.KernelIdeal.Value.G4
  rw [dif_pos hlt, ← Cert.KernelIdeal.Value.outsAt0_sweep m c _ hlt]
  have hloc : Cert.KernelIdeal.Value.loc4Of (ix3 b r j)
      = ix3 0 (row ⟨r.val / 64 % 4, Nat.mod_lt _ (by norm_num)⟩ ⟨r.val % 64, Nat.mod_lt _ (by norm_num)⟩)
          (col ⟨j.val / 128, by omega⟩ ⟨j.val % 128, Nat.mod_lt _ (by norm_num)⟩) := by
    funext a
    apply Fin.ext
    match a with
    | ⟨0, _⟩ => show b.val % 1 = 0; omega
    | ⟨1, _⟩ => show r.val % 256 = 64 * (r.val / 64 % 4) + r.val % 64; omega
    | ⟨2, _⟩ => show j.val % 512 = 128 * (j.val / 128) + j.val % 128; omega
  rw [hloc]
  refine (written m c ⟨_, hlt⟩ _ _ _ _).trans ?_
  have e1 : seqOf ⟨_, hlt⟩ = b := Fin.ext (by show Cert.KernelIdeal.Value.pt4Of (ix3 b r j) / 32 = b.val; rw [hpt]; omega)
  have e2 : 4 * (Cert.KernelIdeal.Value.pt4Of (ix3 b r j) % 32) + r.val / 64 % 4 = r.val / 64 := by rw [hpt]; omega
  show layer _ _ _ _ _ (4 * (Cert.KernelIdeal.Value.pt4Of (ix3 b r j) % 32) + r.val / 64 % 4) _ _ = _
  rw [e1, e2]
  rfl

end

end Hgrn

end
-- ==== Proof.Hgrn.Tensors.lean ====
/- The plain program's tensors, split into chunks and heads as [chunk, sequence, head, row, column], and each of them read
   at an index in the terms of Spec.lean. -/
module

public import proofs.«01_k».proof.Proof.Gen.ReferenceIdeal.Run
public import proofs.«01_k».proof.Proof.Hgrn.Spec
public import Idealize.ShloMosaic.Lib.Tactic.CleanTypes

@[expose] public section

set_option maxRecDepth 16384

noncomputable section

namespace Hgrn

open Idealize.ShloMosaic Idealize.ShloMosaic.TcCoe Idealize.ShloMosaic.StableHlo
open Cert.ReferenceIdeal Cert.ReferenceIdeal.Gen Cert.ReferenceIdeal.Value

/-- A [sequence, position, column] tensor in chunks and heads. -/
def split (x : FVec Ideal S4x8192x512 .f32) : FVec Ideal S128x4x4x64x128 .f32 :=
  transpose S128x4x4x64x128 [1, 0, 3, 2, 4] (shapeCast S4x128x64x4x128 x shapeCasts_S4x8192x512_S4x128x64x4x128)
    transposes_S4x128x64x4x128_S128x4x4x64x128_1_0_3_2_4

/-- The softmax of the two rows of lower bounds, its first row. -/
def lowerT (w : FVec Ideal S2x512 .f32) : FVec Ideal S512 .f32 :=
  let e : FVec Ideal S2x512 .f32 := Host.exp (subf w (broadcastInDim S2x512 ![0, 1] bcast_S1x512_S2x512_0_1
    (broadcastInDim S1x512 ![1] bcast_S512_S1x512_1 (maximumf (broadcastInDim S512 ![] bcast_S_S512 (constant S_ .f32 0xFF800000#32))
      (Host.reduce FloatOps.maximumf w (constant S_ .f32 0xFF800000#32) reducesTo_S2x512_S512_d0 h_S_)))))
  shapeCast S512 (extractStridedSlice S1x512 ![0, 0] (Host.divf e (broadcastInDim S2x512 ![0, 1] bcast_S1x512_S2x512_0_1
    (broadcastInDim S1x512 ![1] bcast_S512_S1x512_1 (Host.reduceAdd e (constant S_ .f32 0x00000000#32) reducesTo_S2x512_S512_d0 h_S_))))
    slices_S2x512_S1x512_0_0) shapeCasts_S1x512_S512

def onesT : FVec Ideal S4x8192x512 .f32 := broadcastInDim S4x8192x512 ![] bcast_S_S4x8192x512 (constant S_ .f32 0x3F800000#32)

def sigmoidT (x : FVec Ideal S4x8192x512 .f32) : FVec Ideal S4x8192x512 .f32 :=
  Host.divf onesT (addf onesT (Host.exp (Host.negf x)))

def overRows (x : FVec Ideal S512 .f32) : FVec Ideal S4x8192x512 .f32 :=
  broadcastInDim S4x8192x512 ![0, 1, 2] bcast_S1x1x512_S4x8192x512_0_1_2 (broadcastInDim S1x1x512 ![2] bcast_S512_S1x1x512_2 x)

/-- The forget gates. -/
def gatesT (p : FVec Ideal S4x8192x2048 .f32) (w : FVec Ideal S2x512 .f32) : FVec Ideal S4x8192x512 .f32 :=
  addf (overRows (lowerT w))
    (mulf (overRows (subf (broadcastInDim S512 ![] bcast_S_S512 (constant S_ .f32 0x3F800000#32)) (lowerT w)))
      (sigmoidT (extractStridedSlice S4x8192x512 ![0, 0, 512] p slices_S4x8192x2048_S4x8192x512_0_0_512)))

def queriesT (p : FVec Ideal S4x8192x2048 .f32) : FVec Ideal S128x4x4x64x128 .f32 :=
  split (mulf (extractStridedSlice S4x8192x512 ![0, 0, 0] p slices_S4x8192x2048_S4x8192x512_0_0_0)
    (sigmoidT (extractStridedSlice S4x8192x512 ![0, 0, 0] p slices_S4x8192x2048_S4x8192x512_0_0_0)))

def keysT (p : FVec Ideal S4x8192x2048 .f32) (w : FVec Ideal S2x512 .f32) : FVec Ideal S128x4x4x64x128 .f32 :=
  split (subf onesT (gatesT p w))

def valuesT (p : FVec Ideal S4x8192x2048 .f32) : FVec Ideal S128x4x4x64x128 .f32 :=
  split (extractStridedSlice S4x8192x512 ![0, 0, 1024] p slices_S4x8192x2048_S4x8192x512_0_0_1024)

/-- Running sums along the rows of each chunk. -/
def runningT (x : FVec Ideal S128x4x4x64x128 .f32) : FVec Ideal S128x4x4x64x128 .f32 :=
  Host.reduceWindowAdd ![1, 1, 1, 64, 1] ![1, 1, 1, 1, 1] ![0, 0, 0, 63, 0] ![0, 0, 0, 0, 0] x
    (broadcastInDim S_ ![] bcast_S_S_ (constant S_ .f32 0x00000000#32))
    reduceWindows_S128x4x4x64x128_S128x4x4x64x128_w1s1p0_0_w1s1p0_0_w1s1p0_0_w64s1p63_0_w1s1p0_0 h_S_

def sumsT (p : FVec Ideal S4x8192x2048 .f32) (w : FVec Ideal S2x512 .f32) : FVec Ideal S128x4x4x64x128 .f32 :=
  runningT (split (Host.log (gatesT p w)))

/-! ## Read at an index -/

theorem split_apply (x : FVec Ideal S4x8192x512 .f32) (n : Fin 128) (b h : Fin 4) (i : Fin 64) (d : Fin 128) :
    split x (ix5 n b h i d) = x (ix3 b (pos n.val i) (col h d)) := by
  unfold split
  pointwise []
  congr 2
  · apply Fin.ext
    show n.val * 64 + i.val = (64 * n.val + i.val) % 8192
    omega
  · apply Fin.ext
    show h.val * 128 + d.val = 128 * h.val + d.val
    omega

theorem lowerT_apply (w : FVec Ideal S2x512 .f32) (j : Fin 512) :
    lowerT w (ix1 j) = lower (fun a j => w (ix2 a j)) j := by
  unfold lowerT lower
  pointwise []
  have e : ∀ f : Fin 2 → EReal, max ⊥ ((Finset.univ : Finset (Fin 2)).fold max ⊥ f) = max (f 0) (f 1) := fun f => by
    rw [show (Finset.univ : Finset (Fin 2)) = {0, 1} from rfl, Finset.fold_insert (by decide), Finset.fold_singleton]
    simp
  have e0 : Ideal.ofBits .f32 4286578688#32 = (⊥ : EReal) := by simp [Ideal.ofBits, Ideal.ieee]
  rw [e0, e, Fin.sum_univ_two]

theorem sigmoidT_apply (x : FVec Ideal S4x8192x512 .f32) (i : S4x8192x512.Idx) : sigmoidT x i = Ideal.logistic (x i) := by
  rw [← logistic_spelled]
  unfold sigmoidT onesT
  pointwise []
  rw [sub_eq_add_neg, zero_add]

theorem gatesT_apply (p : FVec Ideal S4x8192x2048 .f32) (w : FVec Ideal S2x512 .f32) (b : Fin 4) (r : Fin 8192) (j : Fin 512) :
    gatesT p w (ix3 b r j) = forget (fun a j => w (ix2 a j)) (p (ix3 b r (part 1 j))) j := by
  unfold gatesT forget overRows
  pointwise [lowerT_apply, sigmoidT_apply]
  rfl

theorem sum_running (l : Fin 64 → EReal) (i : Fin 64) :
    (∑ k : Fin 64, if h : 63 ≤ i.val + k.val then l ⟨i.val + k.val - 63, by omega⟩ else 0) = ∑ j : Fin 64, if j ≤ i then l j else 0 := by
  rw [← Equiv.sum_comp (Equiv.addRight (i + 1)) (fun j => if j ≤ i then l j else 0)]
  refine Finset.sum_congr rfl fun k _ => ?_
  have hv : ((Equiv.addRight (i + 1)) k).val = (k.val + (i.val + 1)) % 64 := by
    rw [Equiv.coe_addRight, Fin.val_add, Fin.val_add]
    simp
  by_cases h : 63 ≤ i.val + k.val
  · have e : (Equiv.addRight (i + 1)) k = ⟨i.val + k.val - 63, by omega⟩ := by
      apply Fin.ext
      rw [hv]
      show _ = i.val + k.val - 63
      omega
    rw [dif_pos h, e, if_pos (by rw [Fin.le_def]; show i.val + k.val - 63 ≤ i.val; omega)]
  · rw [dif_neg h, if_neg (by rw [Fin.le_def, hv]; omega)]

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The positions of a window of 64 along the fourth axis. -/
def windowEquiv : Fin 64 ≃ Shape.Idx ⟨5, ![1, 1, 1, 64, 1]⟩ where
  toFun k := ix5 0 0 0 k 0
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

theorem runningT_apply (x : FVec Ideal S128x4x4x64x128 .f32) (n : Fin 128) (b h : Fin 4) (i : Fin 64) (d : Fin 128) :
    runningT x (ix5 n b h i d) = running (fun j d => x (ix5 n b h j d)) i d := by
  unfold runningT running
  rw [← sum_running]
  unfold Host.reduceWindowAdd
  rw [Ideal.hostReduceWindowAdd_def]
  unfold Ideal.hostReduceWindowAdd Host.reduceWindow
  dsimp only
  rw [foldl_add]
  rw [show ((broadcastInDim S_ ![] bcast_S_S_ (constant (F := Ideal) S_ .f32 0x00000000#32)) (Shape.Idx.first h_S_) : EReal) = 0 from by pointwise []]
  rw [zero_add, ← Fin.sum_univ_def]
  refine (Equiv.sum_comp (windowEquiv.trans (Shape.rowMajor ⟨5, ![1, 1, 1, 64, 1]⟩)) _).symm.trans ?_
  refine Finset.sum_congr rfl fun k _ => ?_
  have ek : (Shape.rowMajor ⟨5, ![1, 1, 1, 64, 1]⟩).symm ((windowEquiv.trans (Shape.rowMajor ⟨5, ![1, 1, 1, 64, 1]⟩)) k) = ix5 0 0 0 k 0 := by
    rw [Equiv.trans_apply, Equiv.symm_apply_apply]; rfl
  simp only [ek]
  by_cases hk : 63 ≤ i.val + k.val
  · rw [dif_pos hk, dif_pos]
    · congr 1
      funext a
      apply Fin.ext
      match a with
      | ⟨0, _⟩ => show n.val * 1 + 0 - 0 = n.val; omega
      | ⟨1, _⟩ => show b.val * 1 + 0 - 0 = b.val; omega
      | ⟨2, _⟩ => show h.val * 1 + 0 - 0 = h.val; omega
      | ⟨3, _⟩ => show i.val * 1 + k.val - 63 = i.val + k.val - 63; omega
      | ⟨4, _⟩ => show d.val * 1 + 0 - 0 = d.val; omega
    · intro a
      match a with
      | ⟨0, _⟩ => show 0 ≤ n.val * 1 + 0 ∧ n.val * 1 + 0 - 0 < 128; omega
      | ⟨1, _⟩ => show 0 ≤ b.val * 1 + 0 ∧ b.val * 1 + 0 - 0 < 4; omega
      | ⟨2, _⟩ => show 0 ≤ h.val * 1 + 0 ∧ h.val * 1 + 0 - 0 < 4; omega
      | ⟨3, _⟩ => show 63 ≤ i.val * 1 + k.val ∧ i.val * 1 + k.val - 63 < 64; omega
      | ⟨4, _⟩ => show 0 ≤ d.val * 1 + 0 ∧ d.val * 1 + 0 - 0 < 128; omega
  · rw [dif_neg hk, dif_neg]
    intro hin
    have := (hin 3).1
    have : 63 ≤ i.val * 1 + k.val := this
    omega

theorem queriesT_apply (p : FVec Ideal S4x8192x2048 .f32) (n : Fin 128) (b h : Fin 4) (i : Fin 64) (d : Fin 128) :
    queriesT p (ix5 n b h i d) = queries (fun b r j => p (ix3 b r j)) b h n i d := by
  unfold queriesT queries silu
  rw [split_apply]
  pointwise [sigmoidT_apply]
  have e : (⟨(col h d).val, by omega⟩ : Fin 2048) = part 0 (col h d) := Fin.ext (by show (col h d).val = 512 * 0 + (col h d).val; omega)
  rw [e]

theorem gates_split (p : FVec Ideal S4x8192x2048 .f32) (w : FVec Ideal S2x512 .f32) (n : Fin 128) (b h : Fin 4) (i : Fin 64) (d : Fin 128) :
    gatesT p w (ix3 b (pos n.val i) (col h d)) = gates (fun b r j => p (ix3 b r j)) (fun a j => w (ix2 a j)) b h n i d := by
  rw [gatesT_apply]; rfl

theorem keysT_apply (p : FVec Ideal S4x8192x2048 .f32) (w : FVec Ideal S2x512 .f32) (n : Fin 128) (b h : Fin 4) (i : Fin 64) (d : Fin 128) :
    keysT p w (ix5 n b h i d) = keys (fun b r j => p (ix3 b r j)) (fun a j => w (ix2 a j)) b h n i d := by
  unfold keysT keys onesT
  rw [split_apply, ← gates_split]
  pointwise []

theorem valuesT_apply (p : FVec Ideal S4x8192x2048 .f32) (n : Fin 128) (b h : Fin 4) (i : Fin 64) (d : Fin 128) :
    valuesT p (ix5 n b h i d) = values (fun b r j => p (ix3 b r j)) b h n i d := by
  unfold valuesT values
  rw [split_apply]
  pointwise []
  rfl

theorem sumsT_apply (p : FVec Ideal S4x8192x2048 .f32) (w : FVec Ideal S2x512 .f32) (n : Fin 128) (b h : Fin 4) (i : Fin 64) (d : Fin 128) :
    sumsT p w (ix5 n b h i d) = sums (fun b r j => p (ix3 b r j)) (fun a j => w (ix2 a j)) b h n i d := by
  unfold sumsT sums
  rw [runningT_apply]
  congr 1
  funext j d
  rw [split_apply, ← gates_split]
  rfl

end Hgrn

end
-- ==== Proof.Hgrn.Early.lean ====
/- The plain program's contents before its loop. -/
module

public import proofs.«01_k».proof.Proof.Hgrn.Tensors
public import Idealize.ShloMosaic.Lib.Scf.Counter

@[expose] public section

set_option maxRecDepth 16384

noncomputable section

namespace Hgrn

open Idealize.ShloMosaic Idealize.ShloMosaic.TcCoe Idealize.ShloMosaic.StableHlo Idealize.SL.Sem
open Cert.ReferenceIdeal Cert.ReferenceIdeal.Gen Cert.ReferenceIdeal.Value

def early (X : Valuation τ sig (Elt Ideal)) : Valuation τ sig (Elt Ideal) :=
  after hostOps0_3 (after hostOps0_2 (after hostOps0_1 (after hostOps0 X)))

/-- The forget gates, of the lower bounds and the columns they come from. -/
def gatesOf (l : FVec Ideal S512 .f32) (f : FVec Ideal S4x8192x512 .f32) : FVec Ideal S4x8192x512 .f32 :=
  addf (overRows l) (mulf (overRows (subf (broadcastInDim S512 ![] bcast_S_S512 (constant S_ .f32 0x3F800000#32)) l)) (sigmoidT f))

section
variable (X : Valuation τ sig (Elt Ideal))

theorem first_lower : after hostOps0 X (Proc.devRef .tc main_v12) = lowerT (X (Proc.devRef .tc main_arg1)) := by
  after_reads_simp
  try rfl
theorem first_queries : after hostOps0 X (Proc.devRef .tc main_v13) = extractStridedSlice S4x8192x512 ![0, 0, 0] (X (Proc.devRef .tc main_arg0)) slices_S4x8192x2048_S4x8192x512_0_0_0 := by
  after_reads_simp
  try rfl
theorem first_gates : after hostOps0 X (Proc.devRef .tc main_v14) = extractStridedSlice S4x8192x512 ![0, 0, 512] (X (Proc.devRef .tc main_arg0)) slices_S4x8192x2048_S4x8192x512_0_0_512 := by
  after_reads_simp
  try rfl
theorem first_values : after hostOps0 X (Proc.devRef .tc main_v15) = extractStridedSlice S4x8192x512 ![0, 0, 1024] (X (Proc.devRef .tc main_arg0)) slices_S4x8192x2048_S4x8192x512_0_0_1024 := by
  after_reads_simp
  try rfl
theorem second_silu : after hostOps0_1 X (Proc.devRef .tc main_v16) = mulf (s := S4x8192x512) (φ := .f32) (X (Proc.devRef .tc main_v13)) (sigmoidT (X (Proc.devRef .tc main_v13))) := by
  after_reads_simp
  try rfl
theorem second_v12 : after hostOps0_1 X (Proc.devRef .tc main_v12) = X (Proc.devRef .tc main_v12) := by
  after_reads_simp
  try rfl
theorem second_v14 : after hostOps0_1 X (Proc.devRef .tc main_v14) = X (Proc.devRef .tc main_v14) := by
  after_reads_simp
  try rfl
theorem second_v15 : after hostOps0_1 X (Proc.devRef .tc main_v15) = X (Proc.devRef .tc main_v15) := by
  after_reads_simp
  try rfl
theorem third_queries : after hostOps0_2 X (Proc.devRef .tc main_v35) = split (X (Proc.devRef .tc main_v16)) := by
  after_reads_simp
  try rfl
theorem third_keys : after hostOps0_2 X (Proc.devRef .tc main_v37) = split (subf onesT (gatesOf (X (Proc.devRef .tc main_v12)) (X (Proc.devRef .tc main_v14)))) := by
  after_reads_simp
  try rfl
theorem third_logs : after hostOps0_2 X (Proc.devRef .tc main_v39) = split (Host.log (gatesOf (X (Proc.devRef .tc main_v12)) (X (Proc.devRef .tc main_v14)))) := by
  after_reads_simp
  try rfl
theorem third_values : after hostOps0_2 X (Proc.devRef .tc main_v41) = split (X (Proc.devRef .tc main_v15)) := by
  after_reads_simp
  try rfl
theorem fourth_sums : after hostOps0_3 X (Proc.devRef .tc main_v42) = runningT (X (Proc.devRef .tc main_v39)) := by
  after_reads_simp
  try rfl
theorem fourth_v35 : after hostOps0_3 X (Proc.devRef .tc main_v35) = X (Proc.devRef .tc main_v35) := by
  after_reads_simp
  try rfl
theorem fourth_v37 : after hostOps0_3 X (Proc.devRef .tc main_v37) = X (Proc.devRef .tc main_v37) := by
  after_reads_simp
  try rfl
theorem fourth_v41 : after hostOps0_3 X (Proc.devRef .tc main_v41) = X (Proc.devRef .tc main_v41) := by
  after_reads_simp
  try rfl

theorem early_queries : early X (Proc.devRef .tc main_v35) = queriesT (X (Proc.devRef .tc main_arg0)) := by
  unfold early
  rw [fourth_v35, third_queries, second_silu, first_queries]
  rfl
theorem early_keys : early X (Proc.devRef .tc main_v37) = keysT (X (Proc.devRef .tc main_arg0)) (X (Proc.devRef .tc main_arg1)) := by
  unfold early
  rw [fourth_v37, third_keys, second_v12, second_v14, first_lower, first_gates]
  rfl
theorem early_values : early X (Proc.devRef .tc main_v41) = valuesT (X (Proc.devRef .tc main_arg0)) := by
  unfold early
  rw [fourth_v41, third_values, second_v15, first_values]
  rfl
theorem early_sums : early X (Proc.devRef .tc main_v42) = sumsT (X (Proc.devRef .tc main_arg0)) (X (Proc.devRef .tc main_arg1)) := by
  unfold early
  rw [fourth_sums, third_logs, second_v12, second_v14, first_lower, first_gates]
  rfl

end

end Hgrn

end
-- ==== Proof.Hgrn.Terms.lean ====
/- The terms that the plain program makes before its loop, each read at an index. -/
module

public import proofs.«01_k».proof.Proof.Hgrn.Tensors
public import Idealize.ShloMosaic.Lib.Scf.Counter

@[expose] public section

set_option maxRecDepth 16384

noncomputable section

namespace Hgrn

open Idealize.ShloMosaic Idealize.ShloMosaic.TcCoe Idealize.ShloMosaic.StableHlo Idealize.SL.Sem
open Cert.ReferenceIdeal Cert.ReferenceIdeal.Gen Cert.ReferenceIdeal.Value

section
variable (q k v b : FVec Ideal S128x4x4x64x128 .f32)

def overChunk (x : FVec Ideal S128x4x4x1x128 .f32) : FVec Ideal S128x4x4x64x128 .f32 :=
  broadcastInDim S128x4x4x64x128 ![0, 1, 2, 3, 4] bcast_S128x4x4x1x128_S128x4x4x64x128_0_1_2_3_4 x

def midT : FVec Ideal S128x4x4x1x128 .f32 :=
  extractStridedSlice S128x4x4x1x128 ![0, 0, 0, 32, 0] b slices_S128x4x4x64x128_S128x4x4x1x128_0_0_0_32_0
def lastT : FVec Ideal S128x4x4x1x128 .f32 :=
  extractStridedSlice S128x4x4x1x128 ![0, 0, 0, 63, 0] b slices_S128x4x4x64x128_S128x4x4x1x128_0_0_0_63_0

/-- The factor by which each chunk shrinks the state. -/
def decayT : FVec Ideal S128x4x4x128 .f32 :=
  Host.exp (shapeCast S128x4x4x128 (lastT b) shapeCasts_S128x4x4x1x128_S128x4x4x128)

/-- What each chunk adds to the state. -/
def gainT : FVec Ideal S128x4x4x128x128 .f32 :=
  Host.dotGeneral dot_S128x4x4x64x128_S128x4x4x64x128_S128x4x4x128x128_3_3_4_4_012_012 none
    (mulf k (Host.exp (subf (overChunk (lastT b)) b))) v

/-- The queries that meet the state. -/
def decayedT : FVec Ideal S128x4x4x64x128 .f32 := mulf q (Host.exp b)

def causalT : IVec S128x4x4x64x64 1 :=
  broadcastInDim S128x4x4x64x64 ![3, 4] bcast_S64x64_S128x4x4x64x64_3_4
    (select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)))

/-- The part of each chunk's output that its own rows give. -/
def innerT : FVec Ideal S128x4x4x64x128 .f32 :=
  Host.dotGeneral dot_S128x4x4x64x64_S128x4x4x64x128_S128x4x4x64x128_4_3_3_4_012_012 none
    (select causalT (Host.dotGeneral dot_S128x4x4x64x128_S128x4x4x64x128_S128x4x4x64x64_4_4_3_3_012_012 none
        (mulf q (Host.exp (subf b (overChunk (midT b))))) (mulf k (Host.exp (subf (overChunk (midT b)) b))))
      (broadcastInDim S128x4x4x64x64 ![] bcast_S_S128x4x4x64x64 (constant S_ .f32 0x00000000#32))) v

theorem decayT_apply (n : Fin 128) (c h : Fin 4) (d : Fin 128) :
    decayT b (ix4 n c h d) = Ideal.exp (b (ix5 n c h 63 d)) := by
  unfold decayT lastT
  pointwise []

theorem gainT_apply (n : Fin 128) (c h : Fin 4) (d e : Fin 128) :
    gainT k v b (ix5 n c h d e) = gain (fun i d => k (ix5 n c h i d)) (fun i e => v (ix5 n c h i e)) (fun i d => b (ix5 n c h i d)) d e := by
  unfold gainT overChunk lastT gain
  pointwise []

theorem decayedT_apply (n : Fin 128) (c h : Fin 4) (i : Fin 64) (d : Fin 128) :
    decayedT q b (ix5 n c h i d) = q (ix5 n c h i d) * Ideal.exp (b (ix5 n c h i d)) := by
  unfold decayedT
  pointwise []

theorem sge_word : ∀ i j : Fin 64, Scalar.select (IntOp.cmpi CmpIPredicate.sge (BitVec.ofNat 32 i.val) (BitVec.ofNat 32 j.val)) (1#1 : BitVec 1) 0#1
    = if j ≤ i then 1#1 else 0#1 := by decide +kernel

theorem causalT_apply (n : Fin 128) (c h : Fin 4) (i j : Fin 64) :
    causalT (ix5 n c h i j) = if j ≤ i then 1#1 else 0#1 := by
  unfold causalT
  pointwise []
  rw [show IntOp.addi (BitVec.ofNat 32 i.val) 0#32 = BitVec.ofNat 32 i.val from BitVec.add_zero _]
  exact sge_word i j

theorem innerT_apply (n : Fin 128) (c h : Fin 4) (i : Fin 64) (e : Fin 128) :
    innerT q k v b (ix5 n c h i e) = inner (fun i d => q (ix5 n c h i d)) (fun i d => k (ix5 n c h i d)) (fun i e => v (ix5 n c h i e)) (fun i d => b (ix5 n c h i d)) i e := by
  unfold innerT overChunk midT inner score
  pointwise [causalT_apply]
  refine Finset.sum_congr rfl fun j _ => ?_
  by_cases hj : j ≤ i
  · rw [if_pos hj, if_pos hj]; rfl
  · rw [if_neg hj, if_neg hj, zero_mul]; rfl

end

end Hgrn

end
-- ==== Proof.Hgrn.Late.lean ====
/- The plain program's contents before its loop. -/
module

public import proofs.«01_k».proof.Proof.Hgrn.Terms
public import Idealize.ShloMosaic.Lib.Scf.Counter

@[expose] public section

set_option maxRecDepth 16384

noncomputable section

namespace Hgrn

open Idealize.ShloMosaic Idealize.ShloMosaic.TcCoe Idealize.ShloMosaic.StableHlo Idealize.SL.Sem
open Cert.ReferenceIdeal Cert.ReferenceIdeal.Gen Cert.ReferenceIdeal.Value

def late (X : Valuation τ sig (Elt Ideal)) : Valuation τ sig (Elt Ideal) :=
  after hostOps0_8 (after hostOps0_7 (after hostOps0_6 (after hostOps0_5 (after hostOps0_4 X))))

theorem late_decay (X : Valuation τ sig (Elt Ideal)) : late X (Proc.devRef .tc main_v69_0) = decayT (X (Proc.devRef .tc main_v42)) := by
  unfold late
  after_reads_simp
  rfl
theorem late_gain (X : Valuation τ sig (Elt Ideal)) : late X (Proc.devRef .tc main_v69_1)
    = gainT (X (Proc.devRef .tc main_v37)) (X (Proc.devRef .tc main_v41)) (X (Proc.devRef .tc main_v42)) := by
  unfold late
  after_reads_simp
  rfl
theorem late_decayed (X : Valuation τ sig (Elt Ideal)) : late X (Proc.devRef .tc main_v69_2)
    = decayedT (X (Proc.devRef .tc main_v35)) (X (Proc.devRef .tc main_v42)) := by
  unfold late
  after_reads_simp
  rfl
theorem late_inner (X : Valuation τ sig (Elt Ideal)) : late X (Proc.devRef .tc main_v69_3)
    = innerT (X (Proc.devRef .tc main_v35)) (X (Proc.devRef .tc main_v37)) (X (Proc.devRef .tc main_v41)) (X (Proc.devRef .tc main_v42)) := by
  unfold late
  after_reads_simp
  rfl
theorem late_state (X : Valuation τ sig (Elt Ideal)) : late X (Proc.devRef .tc main_v69_5)
    = (broadcastInDim S4x4x128x128 ![] bcast_S_S4x4x128x128 (constant S_ .f32 0x00000000#32) : FVec Ideal S4x4x128x128 .f32) := by
  unfold late
  after_reads_simp
  rfl

end Hgrn

end
-- ==== Proof.Hgrn.Trip.lean ====
/- The plain program's loop body, one trip. -/
module

public import proofs.«01_k».proof.Proof.Hgrn.Tensors
public import Idealize.ShloMosaic.Lib.DynamicIndex
public import Idealize.ShloMosaic.Lib.Pipeline.Value

@[expose] public section

set_option maxRecDepth 16384

noncomputable section

namespace Hgrn

open Idealize.ShloMosaic Idealize.ShloMosaic.TcCoe Idealize.ShloMosaic.StableHlo Idealize.SL.Sem
open Cert.ReferenceIdeal Cert.ReferenceIdeal.Gen Cert.ReferenceIdeal.Value

/-! ## One trip -/

theorem start_toInt : ∀ n : Fin 128, (BitVec.ofNat 32 n.val).toInt = (n.val : Int) := by decide +kernel

/-- The state after a trip, of the terms at it. -/
def stateTrip (start : IVec S_ 32) (decay : FVec Ideal S128x4x4x128 .f32) (gains : FVec Ideal S128x4x4x128x128 .f32)
    (s : FVec Ideal S4x4x128x128 .f32) : FVec Ideal S4x4x128x128 .f32 :=
  addf (mulf (broadcastInDim S4x4x128x128 ![0, 1, 2, 3] bcast_S4x4x128x1_S4x4x128x128_0_1_2_3 (broadcastInDim S4x4x128x1 ![0, 1, 2] bcast_S4x4x128_S4x4x128x1_0_1_2
      (shapeCast S4x4x128 (Host.dynamicSlice S1x4x4x128 decay (fun k => ((![start, constantI S_ 32 0#32, constantI S_ 32 0#32, constantI S_ 32 0#32] : Fin 4 → IVec S_ 32) k (Shape.Idx.first h_S_)).toInt)
        sliceFits_S128x4x4x128_S1x4x4x128) shapeCasts_S1x4x4x128_S4x4x128))) s)
    (shapeCast S4x4x128x128 (Host.dynamicSlice S1x4x4x128x128 gains (fun k => ((![start, constantI S_ 32 0#32, constantI S_ 32 0#32, constantI S_ 32 0#32, constantI S_ 32 0#32] : Fin 5 → IVec S_ 32) k (Shape.Idx.first h_S_)).toInt)
      sliceFits_S128x4x4x128x128_S1x4x4x128x128) shapeCasts_S1x4x4x128x128_S4x4x128x128)

/-- One chunk of a tensor. -/
def chunkT (start : IVec S_ 32) (x : FVec Ideal S128x4x4x64x128 .f32) : FVec Ideal S4x4x64x128 .f32 :=
  shapeCast S4x4x64x128 (Host.dynamicSlice S1x4x4x64x128 x (fun k => ((![start, constantI S_ 32 0#32, constantI S_ 32 0#32, constantI S_ 32 0#32, constantI S_ 32 0#32] : Fin 5 → IVec S_ 32) k (Shape.Idx.first h_S_)).toInt)
    sliceFits_S128x4x4x64x128_S1x4x4x64x128) shapeCasts_S1x4x4x64x128_S4x4x64x128

/-- The rows after a trip. -/
def rowsTrip (start : IVec S_ 32) (inn qs : FVec Ideal S128x4x4x64x128 .f32) (s : FVec Ideal S4x4x128x128 .f32)
    (rows : FVec Ideal S128x4x4x64x128 .f32) : FVec Ideal S128x4x4x64x128 .f32 :=
  Host.dynamicUpdateSlice rows (broadcastInDim S1x4x4x64x128 ![1, 2, 3, 4] bcast_S4x4x64x128_S1x4x4x64x128_1_2_3_4
      (addf (chunkT start inn) (Host.dotGeneral dot_S4x4x64x128_S4x4x128x128_S4x4x64x128_3_2_2_3_01_01 none (chunkT start qs) s)))
    (fun k => ((![start, constantI S_ 32 0#32, constantI S_ 32 0#32, constantI S_ 32 0#32, constantI S_ 32 0#32] : Fin 5 → IVec S_ 32) k (Shape.Idx.first h_S_)).toInt)
    updateFits_S128x4x4x64x128_S1x4x4x64x128

section
variable (X : Valuation τ sig (Elt Ideal))

theorem step_state_eq : step_main_v69_5 X = stateTrip (X (Proc.devRef .tc main_v69_4)) (X (Proc.devRef .tc main_v69_0))
    (X (Proc.devRef .tc main_v69_1)) (X (Proc.devRef .tc main_v69_5)) := by
  unfold step_main_v69_5 stateTrip
  rfl

theorem step_rows_eq : step_main_v69_6 X = rowsTrip (X (Proc.devRef .tc main_v69_4)) (X (Proc.devRef .tc main_v69_3))
    (X (Proc.devRef .tc main_v69_2)) (X (Proc.devRef .tc main_v69_5)) (X (Proc.devRef .tc main_v69_6)) := by
  unfold step_main_v69_6 rowsTrip chunkT
  rfl

end

section
variable (n : Fin 128)

theorem fits4 : S128x4x4x128.Slices ![n.val, 0, 0, 0] S1x4x4x128 := by
  refine ⟨rfl, fun a => ?_⟩
  match a with
  | ⟨0, _⟩ => show n.val + 1 ≤ 128; omega
  | ⟨1, _⟩ => show 0 + 4 ≤ 4; omega
  | ⟨2, _⟩ => show 0 + 4 ≤ 4; omega
  | ⟨3, _⟩ => show 0 + 128 ≤ 128; omega

theorem fits5 : S128x4x4x64x128.Slices ![n.val, 0, 0, 0, 0] S1x4x4x64x128 := by
  refine ⟨rfl, fun a => ?_⟩
  match a with
  | ⟨0, _⟩ => show n.val + 1 ≤ 128; omega
  | ⟨1, _⟩ => show 0 + 4 ≤ 4; omega
  | ⟨2, _⟩ => show 0 + 4 ≤ 4; omega
  | ⟨3, _⟩ => show 0 + 64 ≤ 64; omega
  | ⟨4, _⟩ => show 0 + 128 ≤ 128; omega

theorem fits5' : S128x4x4x128x128.Slices ![n.val, 0, 0, 0, 0] S1x4x4x128x128 := by
  refine ⟨rfl, fun a => ?_⟩
  match a with
  | ⟨0, _⟩ => show n.val + 1 ≤ 128; omega
  | ⟨1, _⟩ => show 0 + 4 ≤ 4; omega
  | ⟨2, _⟩ => show 0 + 4 ≤ 4; omega
  | ⟨3, _⟩ => show 0 + 128 ≤ 128; omega
  | ⟨4, _⟩ => show 0 + 128 ≤ 128; omega

theorem start4 (a : Fin 4) : ((![fun _ => BitVec.ofNat 32 n.val, constantI S_ 32 0#32, constantI S_ 32 0#32, constantI S_ 32 0#32] : Fin 4 → IVec S_ 32) a (Shape.Idx.first h_S_)).toInt
    = ((![n.val, 0, 0, 0] : Fin 4 → ℕ) a : Int) := by
  match a with
  | ⟨0, _⟩ => exact start_toInt n
  | ⟨1, _⟩ => rfl
  | ⟨2, _⟩ => rfl
  | ⟨3, _⟩ => rfl

theorem start5 (a : Fin 5) : ((![fun _ => BitVec.ofNat 32 n.val, constantI S_ 32 0#32, constantI S_ 32 0#32, constantI S_ 32 0#32, constantI S_ 32 0#32] : Fin 5 → IVec S_ 32) a (Shape.Idx.first h_S_)).toInt
    = ((![n.val, 0, 0, 0, 0] : Fin 5 → ℕ) a : Int) := by
  match a with
  | ⟨0, _⟩ => exact start_toInt n
  | ⟨1, _⟩ => rfl
  | ⟨2, _⟩ => rfl
  | ⟨3, _⟩ => rfl
  | ⟨4, _⟩ => rfl

theorem stateTrip_apply (decay : FVec Ideal S128x4x4x128 .f32) (gains : FVec Ideal S128x4x4x128x128 .f32)
    (s : FVec Ideal S4x4x128x128 .f32) (b h : Fin 4) (d e : Fin 128) :
    stateTrip (fun _ => BitVec.ofNat 32 n.val) decay gains s (ix4 b h d e)
      = decay (ix4 n b h d) * s (ix4 b h d e) + gains (ix5 n b h d e) := by
  unfold stateTrip
  rw [Host.dynamicSlice_eq_extractStridedSlice S1x4x4x128 decay _ ![n.val, 0, 0, 0] _ (fits4 n) (start4 n),
    Host.dynamicSlice_eq_extractStridedSlice S1x4x4x128x128 gains _ ![n.val, 0, 0, 0, 0] _ (fits5' n) (start5 n)]
  pointwise []

theorem chunkT_apply (x : FVec Ideal S128x4x4x64x128 .f32) (b h : Fin 4) (i : Fin 64) (d : Fin 128) :
    chunkT (fun _ => BitVec.ofNat 32 n.val) x (ix4 b h i d) = x (ix5 n b h i d) := by
  unfold chunkT
  rw [Host.dynamicSlice_eq_extractStridedSlice S1x4x4x64x128 x _ ![n.val, 0, 0, 0, 0] _ (fits5 n) (start5 n)]
  pointwise []

theorem rowsTrip_apply (inn qs : FVec Ideal S128x4x4x64x128 .f32) (s : FVec Ideal S4x4x128x128 .f32)
    (rows : FVec Ideal S128x4x4x64x128 .f32) (n' : Fin 128) (b h : Fin 4) (i : Fin 64) (e : Fin 128) :
    rowsTrip (fun _ => BitVec.ofNat 32 n.val) inn qs s rows (ix5 n' b h i e)
      = if n' = n then inn (ix5 n b h i e) + ∑ d : Fin 128, qs (ix5 n b h i d) * s (ix4 b h d e) else rows (ix5 n' b h i e) := by
  unfold rowsTrip
  rw [Host.dynamicUpdateSlice_eq_updateSlice _ _ _ _ ![n.val, 0, 0, 0, 0] (fun a => by
    have := (fits5 n).2 a
    rw [start5 n a]
    omega) (fits5 n)]
  unfold updateSlice
  by_cases hn : n' = n
  · subst hn
    rw [if_pos rfl, dif_pos]
    · rw [show (fun a => _ : S1x4x4x64x128.Idx) = ix5 0 b h i e from by
        funext a
        apply Fin.ext
        match a with
        | ⟨0, _⟩ => show n'.val - n'.val = 0; omega
        | ⟨1, _⟩ => rfl
        | ⟨2, _⟩ => rfl
        | ⟨3, _⟩ => rfl
        | ⟨4, _⟩ => rfl]
      pointwise [chunkT_apply]
    · intro a
      match a with
      | ⟨0, _⟩ => show n'.val ≤ n'.val ∧ n'.val < n'.val + 1; omega
      | ⟨1, _⟩ => show 0 ≤ b.val ∧ b.val < 0 + 4; omega
      | ⟨2, _⟩ => show 0 ≤ h.val ∧ h.val < 0 + 4; omega
      | ⟨3, _⟩ => show 0 ≤ i.val ∧ i.val < 0 + 64; omega
      | ⟨4, _⟩ => show 0 ≤ e.val ∧ e.val < 0 + 128; omega
  · rw [if_neg hn, dif_neg]
    intro hin
    have h0 : n.val ≤ n'.val ∧ n'.val < n.val + 1 := hin 0
    exact hn (Fin.ext (by omega))

end

end Hgrn

end
-- ==== Proof.Hgrn.Reference.lean ====
/- The plain program's result: its loop by induction on the trips, then the operations after it. -/
module

public import proofs.«01_k».proof.Proof.Hgrn.Early
public import proofs.«01_k».proof.Proof.Hgrn.Late
public import proofs.«01_k».proof.Proof.Hgrn.Trip

@[expose] public section

set_option maxRecDepth 16384

noncomputable section

namespace Hgrn

open Idealize.ShloMosaic Idealize.ShloMosaic.TcCoe Idealize.ShloMosaic.StableHlo Idealize.SL.Sem
open Cert.ReferenceIdeal Cert.ReferenceIdeal.Gen Cert.ReferenceIdeal.Value

section
variable (m : (ℓ : Loc nD τ sig) → Buf (Elt Ideal) ℓ) (c : Dev nD)

/-- The arguments by coordinates. -/
def refP (b : Fin 4) (r : Fin 8192) (j : Fin 2048) : EReal :=
  (m (c.tc.loc main_arg0) : FVec Ideal S4x8192x2048 .f32) (ix3 b r j)
def refW (a : Fin 2) (j : Fin 512) : EReal := (m (c.tc.loc main_arg1) : FVec Ideal S2x512 .f32) (ix2 a j)
def refN (j : Fin 512) : EReal := (m (c.tc.loc main_arg2) : FVec Ideal S1x512 .f32) (ix2 0 j)

def entryK (k : ℕ) : Valuation τ sig (Elt Ideal) := STEP^[k] (entryContents preI m c)

theorem entry_eq : entryContents preI m c = late (early (fun b => m ⟨c, b⟩)) := rfl

theorem entryK_succ (k : ℕ) : entryK m c (k + 1) = STEP (entryK m c k) := Function.iterate_succ_apply' ..

def theP : FVec Ideal S4x8192x2048 .f32 := m (c.tc.loc main_arg0)
def theW : FVec Ideal S2x512 .f32 := m (c.tc.loc main_arg1)

theorem at_decay : ∀ k, (entryK m c k (Proc.devRef .tc main_v69_0) : FVec Ideal S128x4x4x128 .f32)
    = decayT (sumsT (theP m c) (theW m c))
  | 0 => by
    unfold entryK
    rw [Function.iterate_zero, id_eq, entry_eq, late_decay, early_sums]; rfl
  | k + 1 => by rw [entryK_succ, STEP_main_v69_0, at_decay k]
theorem at_gain : ∀ k, (entryK m c k (Proc.devRef .tc main_v69_1) : FVec Ideal S128x4x4x128x128 .f32)
    = gainT (keysT (theP m c) (theW m c)) (valuesT (theP m c)) (sumsT (theP m c) (theW m c))
  | 0 => by
    unfold entryK
    rw [Function.iterate_zero, id_eq, entry_eq, late_gain, early_sums, early_keys, early_values]; rfl
  | k + 1 => by rw [entryK_succ, STEP_main_v69_1, at_gain k]
theorem at_decayed : ∀ k, (entryK m c k (Proc.devRef .tc main_v69_2) : FVec Ideal S128x4x4x64x128 .f32)
    = decayedT (queriesT (theP m c)) (sumsT (theP m c) (theW m c))
  | 0 => by
    unfold entryK
    rw [Function.iterate_zero, id_eq, entry_eq, late_decayed, early_sums, early_queries]; rfl
  | k + 1 => by rw [entryK_succ, STEP_main_v69_2, at_decayed k]
theorem at_inner : ∀ k, (entryK m c k (Proc.devRef .tc main_v69_3) : FVec Ideal S128x4x4x64x128 .f32)
    = innerT (queriesT (theP m c)) (keysT (theP m c) (theW m c)) (valuesT (theP m c)) (sumsT (theP m c) (theW m c))
  | 0 => by
    unfold entryK
    rw [Function.iterate_zero, id_eq, entry_eq, late_inner, early_sums, early_keys, early_values, early_queries]; rfl
  | k + 1 => by rw [entryK_succ, STEP_main_v69_3, at_inner k]

theorem at_counter : ∀ k, (entryK m c k (Proc.devRef .tc main_v69_4) : IVec S_ 32) = fun _ => BitVec.ofNat 32 k
  | 0 => by
    unfold entryK
    rw [Function.iterate_zero, id_eq, ctr_entry]
  | k + 1 => by
    rw [entryK_succ, STEP_main_v69_4]
    unfold step_main_v69_4
    rw [at_counter k, BitVec.ofNat_add]
    rfl

theorem at_state (b h : Fin 4) (d e : Fin 128) : ∀ k ≤ 128, (entryK m c k (Proc.devRef .tc main_v69_5) : FVec Ideal S4x4x128x128 .f32) (ix4 b h d e)
    = state (refP m c) (refW m c) b h k d e
  | 0, _ => by
    unfold entryK
    rw [Function.iterate_zero, id_eq, entry_eq, late_state]
    pointwise []
    rfl
  | k + 1, hk => by
    rw [entryK_succ, STEP_main_v69_5, step_state_eq, at_counter, at_decay, at_gain]
    have := stateTrip_apply (⟨k, by omega⟩ : Fin 128) (decayT (sumsT (theP m c) (theW m c)))
      (gainT (keysT (theP m c) (theW m c)) (valuesT (theP m c)) (sumsT (theP m c) (theW m c)))
      (entryK m c k (Proc.devRef .tc main_v69_5)) b h d e
    refine this.trans ?_
    rw [at_state b h d e k (by omega), decayT_apply, gainT_apply]
    simp only [sumsT_apply, keysT_apply, valuesT_apply]
    rfl

theorem at_rows (b h : Fin 4) (i : Fin 64) (e : Fin 128) : ∀ k ≤ 128, ∀ n : Fin 128, n.val < k →
    (entryK m c k (Proc.devRef .tc main_v69_6) : FVec Ideal S128x4x4x64x128 .f32) (ix5 n b h i e)
      = output (queries (refP m c) b h n) (keys (refP m c) (refW m c) b h n) (values (refP m c) b h n)
          (sums (refP m c) (refW m c) b h n) (state (refP m c) (refW m c) b h n) i e
  | 0, _, _, hn => absurd hn (Nat.not_lt_zero _)
  | k + 1, hk, n, hn => by
    rw [entryK_succ, STEP_main_v69_6, step_rows_eq, at_counter, at_decayed, at_inner]
    have := rowsTrip_apply (⟨k, by omega⟩ : Fin 128)
      (innerT (queriesT (theP m c)) (keysT (theP m c) (theW m c)) (valuesT (theP m c)) (sumsT (theP m c) (theW m c)))
      (decayedT (queriesT (theP m c)) (sumsT (theP m c) (theW m c)))
      (entryK m c k (Proc.devRef .tc main_v69_5)) (entryK m c k (Proc.devRef .tc main_v69_6)) n b h i e
    refine this.trans ?_
    by_cases hnk : n = ⟨k, by omega⟩
    · rw [if_pos hnk, innerT_apply]
      simp only [decayedT_apply, queriesT_apply, sumsT_apply, keysT_apply, valuesT_apply, at_state m c b h _ _ k (by omega)]
      rw [show n.val = k from congrArg Fin.val hnk]
      rfl
    · rw [if_neg hnk]
      exact at_rows b h i e k (by omega) n (by
        have : n.val ≠ k := fun h => hnk (Fin.ext h)
        omega)

end

/-! ## After the loop -/

/-- The rows normalised head by head. -/
def normedT (x : FVec Ideal S128x4x4x64x128 .f32) : FVec Ideal S128x4x4x64x128 .f32 :=
  mulf x (broadcastInDim S128x4x4x64x128 ![0, 1, 2, 3, 4] bcast_S128x4x4x64x1_S128x4x4x64x128_0_1_2_3_4 (Host.rsqrt (addf (Host.divf (broadcastInDim S128x4x4x64x1 ![0, 1, 2, 3] bcast_S128x4x4x64_S128x4x4x64x1_0_1_2_3 (Host.reduceAdd (mulf x x) (constant S_ .f32 0x00000000#32) reducesTo_S128x4x4x64x128_S128x4x4x64_d4 h_S_)) (broadcastInDim S128x4x4x64x1 ![] bcast_S_S128x4x4x64x1 (constant S_ .f32 0x43000000#32))) (broadcastInDim S128x4x4x64x1 ![] bcast_S_S128x4x4x64x1 (constant S_ .f32 0x358637BD#32)))))

/-- Chunks and heads put back as [sequence, position, column]. -/
def joinT (x : FVec Ideal S128x4x4x64x128 .f32) : FVec Ideal S4x8192x512 .f32 :=
  shapeCast _ (transpose S4x128x64x4x128 [1, 0, 3, 2, 4] x transposes_S128x4x4x64x128_S4x128x64x4x128_1_0_3_2_4) shapeCasts_S4x128x64x4x128_S4x8192x512

def gateT (p : FVec Ideal S4x8192x2048 .f32) : FVec Ideal S4x8192x512 .f32 :=
  mulf (extractStridedSlice S4x8192x512 ![0, 0, 1536] p slices_S4x8192x2048_S4x8192x512_0_0_1536)
    (sigmoidT (extractStridedSlice S4x8192x512 ![0, 0, 1536] p slices_S4x8192x2048_S4x8192x512_0_0_1536))

def outT (rows : FVec Ideal S128x4x4x64x128 .f32) (p : FVec Ideal S4x8192x2048 .f32) (nw : FVec Ideal S1x512 .f32) :
    FVec Ideal S4x8192x512 .bf16 :=
  truncf .bf16 (mulf (mulf (joinT (normedT rows)) (broadcastInDim S4x8192x512 ![0, 1, 2] bcast_S1x1x512_S4x8192x512_0_1_2
    (broadcastInDim S1x1x512 ![1, 2] bcast_S1x512_S1x1x512_1_2 nw))) (gateT p)) bitsLt_bf16_f32

theorem out_eq (X : Valuation τ sig (Elt Ideal)) : out_main_v88 X
    = outT (X (Proc.devRef .tc main_v69_6)) (X (Proc.devRef .tc main_arg0)) (X (Proc.devRef .tc main_arg2)) := by
  unfold out_main_v88 outT joinT normedT gateT sigmoidT onesT
  rfl

theorem normedT_apply (x : FVec Ideal S128x4x4x64x128 .f32) (n : Fin 128) (b h : Fin 4) (i : Fin 64) (e : Fin 128) :
    normedT x (ix5 n b h i e) = normal (fun e => x (ix5 n b h i e)) e := by
  unfold normedT normal
  pointwise []

theorem joinT_apply (x : FVec Ideal S128x4x4x64x128 .f32) (b : Fin 4) (r : Fin 8192) (j : Fin 512) :
    joinT x (ix3 b r j) = x (ix5 (⟨r.val / 64, by omega⟩ : Fin 128) b (⟨j.val / 128, by omega⟩ : Fin 4) (⟨r.val % 64, by omega⟩ : Fin 64) (⟨j.val % 128, by omega⟩ : Fin 128)) := by
  unfold joinT
  pointwise []

theorem outT_apply (rows : FVec Ideal S128x4x4x64x128 .f32) (p : FVec Ideal S4x8192x2048 .f32) (nw : FVec Ideal S1x512 .f32)
    (b : Fin 4) (r : Fin 8192) (j : Fin 512) :
    outT rows p nw (ix3 b r j) = normal (fun e => rows (ix5 (⟨r.val / 64, by omega⟩ : Fin 128) b (⟨j.val / 128, by omega⟩ : Fin 4) (⟨r.val % 64, by omega⟩ : Fin 64) e)) (⟨j.val % 128, by omega⟩ : Fin 128)
      * nw (ix2 0 j) * silu (p (ix3 b r (part 3 j))) := by
  unfold outT gateT silu
  pointwise [joinT_apply, normedT_apply, sigmoidT_apply]
  rfl

/-- The result by coordinates. -/
theorem reference_eq (m : (ℓ : Loc nD τ sig) → Buf (Elt Ideal) ℓ) (c : Dev nD) (b : Fin 4) (r : Fin 8192) (j : Fin 512) :
    (out_main_v88 (STEP^[128] (entryContents preI m c)) : FVec Ideal S4x8192x512 .bf16) (ix3 b r j)
      = whole (refP m c) (refW m c) (refN m c) b r j := by
  rw [out_eq]
  refine (outT_apply _ _ _ b r j).trans ?_
  rw [iter_main_arg0 m c 128, iter_main_arg2 m c 128]
  have hrow : ∀ e : Fin 128, ((STEP^[128] (entryContents preI m c)) (Proc.devRef .tc main_v69_6) : FVec Ideal S128x4x4x64x128 .f32)
      (ix5 (⟨r.val / 64, by omega⟩ : Fin 128) b (⟨j.val / 128, by omega⟩ : Fin 4) (⟨r.val % 64, by omega⟩ : Fin 64) e) = _ :=
    fun e => at_rows m c b _ _ e 128 le_rfl ⟨r.val / 64, by omega⟩ (by show r.val / 64 < 128; omega)
  simp only [hrow]
  unfold whole layer
  have hpos : pos (r.val / 64) ⟨r.val % 64, by omega⟩ = r := Fin.ext (by show (64 * (r.val / 64) + r.val % 64) % 8192 = r.val; omega)
  have hcol : col ⟨j.val / 128, by omega⟩ ⟨j.val % 128, by omega⟩ = j := Fin.ext (by show 128 * (j.val / 128) + j.val % 128 = j.val; omega)
  rw [hpos, hcol, mul_assoc]
  refine congrArg₂ (· * ·) rfl (mul_comm _ _)

end Hgrn

end
-- ==== Proof.Ffn.Spec.lean ====
/- The mathematics of the layer's last stage on one token, over the extended reals: the output projection with its
   residual, the RMS norm, the gated feed-forward network. -/
module

public import Idealize.ShloMosaic.Lib.Pointwise

@[expose] public section

set_option maxRecDepth 16384

noncomputable section

namespace Ffn

open Idealize.ShloMosaic

/-- The rows of the output projection's weights that meet the first mixer's output, and the second's. -/
def first (k : Fin 512) : Fin 1024 := ⟨k.val, by omega⟩
def second (k : Fin 512) : Fin 1024 := ⟨512 + k.val, by omega⟩

/-- The residual stream after the output projection, at one token. -/
def mix (x : Fin 1024 → EReal) (o o' : Fin 512 → EReal) (wo : Fin 1024 → Fin 1024 → EReal) (j : Fin 1024) : EReal :=
  x j + (∑ k : Fin 512, o k * wo (first k) j + ∑ k : Fin 512, o' k * wo (second k) j)

/-- The RMS norm of a row `y` with weights `w`: `y · rsqrt (mean (y²) + ε) · w`. -/
def rms (y w : Fin 1024 → EReal) (j : Fin 1024) : EReal :=
  y j * Ideal.rsqrt (Ideal.div (∑ k : Fin 1024, y k * y k) (Ideal.ofBits .f32 0x44800000#32)
    + Ideal.ofBits .f32 0x358637BD#32) * w j

/-- A projection of the row `h` to one hidden unit. -/
def proj (h : Fin 1024 → EReal) (w : Fin 1024 → Fin 2816 → EReal) (k : Fin 2816) : EReal :=
  ∑ l : Fin 1024, h l * w l k

/-- One hidden unit of the gated network: `silu (h · w1) · (h · w3)`. -/
def hidden (h : Fin 1024 → EReal) (w1 w3 : Fin 1024 → Fin 2816 → EReal) (k : Fin 2816) : EReal :=
  proj h w1 k * Ideal.logistic (proj h w1 k) * proj h w3 k

/-- The residual stream after the feed-forward network. -/
def ffn (x : Fin 1024 → EReal) (o o' : Fin 512 → EReal) (n2 : Fin 1024 → EReal) (wo : Fin 1024 → Fin 1024 → EReal)
    (w1 w3 : Fin 1024 → Fin 2816 → EReal) (w2 : Fin 2816 → Fin 1024 → EReal) (j : Fin 1024) : EReal :=
  mix x o o' wo j + ∑ k : Fin 2816, hidden (rms (mix x o o' wo) n2) w1 w3 k * w2 k j

theorem logistic_spelled (x : EReal) : Ideal.div 1 (1 + Ideal.exp (0 - x)) = Ideal.logistic x := by
  rw [sub_eq_add_neg, zero_add]; rfl

end Ffn

end
-- ==== Proof.Proj.Payload.lean ====
/- What one grid point of the in-projection's kernel computes: each row of its block, normalised, times the columns of the
   weights. -/
module

public import proofs.«01_k».proof.Proof.Ffn.Spec
public import proofs.«01_k».proof.Proof.Gen.ProjIdeal.Frame
public import Idealize.ShloMosaic.Lib.Pipeline.Value
public import Idealize.ShloMosaic.Lib.Pipeline.ReadBack

@[expose] public section

set_option maxRecDepth 16384

noncomputable section

namespace Proj

open Idealize.ShloMosaic Idealize.ShloMosaic.TcCoe Idealize.SL.Sem
open Cert.ProjIdeal Cert.ProjIdeal.Gen

theorem offs2 : (![0, 0] : Fin 2 → Nat) = fun _ => 0 := funext fun a => by fin_cases a <;> rfl

/-- One column of the in-projection at one token: the row `x`, normalised with the weights `n`, times column `k`. -/
def column (x n : Fin 1024 → EReal) (w : Fin 1024 → Fin 3840 → EReal) (k : Fin 3840) : EReal :=
  ∑ l : Fin 1024, Ffn.rms x n l * w l k

/-- The columns of the weights for the first mixer, and those for the second. -/
def firstCol (j : Fin 2048) : Fin 3840 := ⟨j.val, by omega⟩
def secondCol (j : Fin 1792) : Fin 3840 := ⟨2048 + j.val, by omega⟩

/-- A normalised row. -/
theorem normed_apply (x : Vec Ideal S512x1024 .f32) (n : Vec Ideal S1x1024 .f32) (r : Fin 512) (j : Fin 1024) :
    k0_pay5 x n (ix2 r j) = Ffn.rms (fun j => x (ix2 r j)) (fun j => n (ix2 0 j)) j := by
  unfold k0_pay5 Ffn.rms
  pointwise []

section
variable (h : Vec Ideal S512x1024 .bf16) (W : Vec Ideal S1024x3840 .bf16)

/-- The stores of the first mixer's projections' block, the last one first. -/
def firstStores : List (View.Piece (Elt Ideal) S512x2048 .f32) := [
  ⟨Rect.unit ![0, 1536] S512x512.size inb_S512x2048_S512x512_0_1536,
    k0_pay6 h (View.ld W (Rect.unit ![0, 1536] S1024x512.size inb_S1024x3840_S1024x512_0_1536))⟩,
  ⟨Rect.unit ![0, 1024] S512x512.size inb_S512x2048_S512x512_0_1024,
    k0_pay6 h (View.ld W (Rect.unit ![0, 1024] S1024x512.size inb_S1024x3840_S1024x512_0_1024))⟩,
  ⟨Rect.unit ![0, 512] S512x512.size inb_S512x2048_S512x512_0_512,
    k0_pay6 h (View.ld W (Rect.unit ![0, 512] S1024x512.size inb_S1024x3840_S1024x512_0_512))⟩,
  ⟨Rect.unit ![0, 0] S512x512.size inb_S512x2048_S512x512_0_0,
    k0_pay6 h (View.ld W (Rect.unit ![0, 0] S1024x512.size inb_S1024x3840_S1024x512_0_0))⟩]

/-- What they leave: row times column of the weights. -/
def firstBlock (i : S512x2048.Idx) : EReal := ∑ l : Fin 1024, h (ix2 (i 0) l) * W (ix2 l (firstCol (i 1)))

theorem first_eq (o p : ℕ) (inb : ∀ a, (![0, o] : Fin 2 → Nat) a + S512x512.size a ≤ S512x2048.size a)
    (inb' : ∀ a, (![0, p] : Fin 2 → Nat) a + S1024x512.size a ≤ S1024x3840.size a) (hp : p = o) (x : S512x512.Idx) :
    (k0_pay6 h (View.ld W (Rect.unit ![0, p] S1024x512.size inb')) : FVec Ideal S512x512 .f32) x
      = firstBlock h W ((Rect.unit (s := S512x2048) ![0, o] S512x512.size inb).emb x) := by
  obtain ⟨r, j, rfl⟩ : ∃ (r : Fin 512) (j : Fin 512), x = ix2 r j := ⟨x 0, x 1, eq_ix2 _⟩
  unfold k0_pay6 firstBlock
  pointwise []
  refine Finset.sum_congr rfl fun l _ => ?_
  congr 2
  · funext a
    apply Fin.ext
    match a with
    | ⟨0, _⟩ => show r.val = 0 + 1 * r.val; omega
    | ⟨1, _⟩ => rfl
  · funext a
    apply Fin.ext
    match a with
    | ⟨0, _⟩ => first | rfl | (show 0 + 1 * l.val = l.val; omega)
    | ⟨1, _⟩ => show p + j.val = (o + 1 * j.val); omega

theorem first_pieces : View.PiecesOf (firstBlock h W) (firstStores h W) :=
  ⟨fun x => first_eq h W 1536 1536 inb_S512x2048_S512x512_0_1536 inb_S1024x3840_S1024x512_0_1536 rfl x, fun x => first_eq h W 1024 1024 inb_S512x2048_S512x512_0_1024 inb_S1024x3840_S1024x512_0_1024 rfl x, fun x => first_eq h W 512 512 inb_S512x2048_S512x512_0_512 inb_S1024x3840_S1024x512_0_512 rfl x, fun x => first_eq h W 0 0 inb_S512x2048_S512x512_0_0 inb_S1024x3840_S1024x512_0_0 rfl x, trivial⟩

theorem mem_first (o : ℕ) (inb : ∀ a, (![0, o] : Fin 2 → Nat) a + S512x512.size a ≤ S512x2048.size a) (r : Fin 512) (j : Fin 2048)
    (h1 : o ≤ j.val) (h2 : j.val < o + 512) : (ix2 r j : S512x2048.Idx) ∈ (Rect.unit (s := S512x2048) ![0, o] S512x512.size inb).set := by
  rw [Rect.mem_set_unit]
  intro a
  match a with
  | ⟨0, _⟩ => exact ⟨Nat.zero_le _, by show r.val < 0 + 512; omega⟩
  | ⟨1, _⟩ => exact ⟨h1, h2⟩

theorem firstStores_apply (r : Fin 512) (j : Fin 2048) :
    View.canon (firstStores h W) (ix2 r j) = ∑ l : Fin 1024, h (ix2 r l) * W (ix2 l (firstCol j)) := by
  have hr := r.isLt
  have hj := j.isLt
  rw [← List.append_nil (firstStores h W)]
  refine View.canon_append_of_piecesOf (firstBlock h W) [] (firstStores h W)
    (first_pieces h W) (ix2 r j) ?_
  unfold firstStores
  by_cases h0 : j.val < 512
  · exact ⟨_, .tail _ (.tail _ (.tail _ (.head _))), mem_first 0 inb_S512x2048_S512x512_0_0 r j (by omega) (by omega)⟩
  by_cases h1 : j.val < 1024
  · exact ⟨_, .tail _ (.tail _ (.head _)), mem_first 512 inb_S512x2048_S512x512_0_512 r j (by omega) (by omega)⟩
  by_cases h2 : j.val < 1536
  · exact ⟨_, .tail _ (.head _), mem_first 1024 inb_S512x2048_S512x512_0_1024 r j (by omega) (by omega)⟩
  exact ⟨_, .head _, mem_first 1536 inb_S512x2048_S512x512_0_1536 r j (by omega) (by omega)⟩

/-- The stores of the second mixer's projections' block, the last one first. -/
def secondStores : List (View.Piece (Elt Ideal) S512x1792 .f32) := [
  ⟨Rect.unit ![0, 1536] S512x256.size inb_S512x1792_S512x256_0_1536,
    k0_pay10 h (View.ld W (Rect.unit ![0, 3584] S1024x256.size inb_S1024x3840_S1024x256_0_3584))⟩,
  ⟨Rect.unit ![0, 1280] S512x256.size inb_S512x1792_S512x256_0_1280,
    k0_pay10 h (View.ld W (Rect.unit ![0, 3328] S1024x256.size inb_S1024x3840_S1024x256_0_3328))⟩,
  ⟨Rect.unit ![0, 1024] S512x256.size inb_S512x1792_S512x256_0_1024,
    k0_pay10 h (View.ld W (Rect.unit ![0, 3072] S1024x256.size inb_S1024x3840_S1024x256_0_3072))⟩,
  ⟨Rect.unit ![0, 768] S512x256.size inb_S512x1792_S512x256_0_768,
    k0_pay10 h (View.ld W (Rect.unit ![0, 2816] S1024x256.size inb_S1024x3840_S1024x256_0_2816))⟩,
  ⟨Rect.unit ![0, 512] S512x256.size inb_S512x1792_S512x256_0_512,
    k0_pay10 h (View.ld W (Rect.unit ![0, 2560] S1024x256.size inb_S1024x3840_S1024x256_0_2560))⟩,
  ⟨Rect.unit ![0, 256] S512x256.size inb_S512x1792_S512x256_0_256,
    k0_pay10 h (View.ld W (Rect.unit ![0, 2304] S1024x256.size inb_S1024x3840_S1024x256_0_2304))⟩,
  ⟨Rect.unit ![0, 0] S512x256.size inb_S512x1792_S512x256_0_0,
    k0_pay10 h (View.ld W (Rect.unit ![0, 2048] S1024x256.size inb_S1024x3840_S1024x256_0_2048))⟩]

/-- What they leave: row times column of the weights. -/
def secondBlock (i : S512x1792.Idx) : EReal := ∑ l : Fin 1024, h (ix2 (i 0) l) * W (ix2 l (secondCol (i 1)))

theorem second_eq (o p : ℕ) (inb : ∀ a, (![0, o] : Fin 2 → Nat) a + S512x256.size a ≤ S512x1792.size a)
    (inb' : ∀ a, (![0, p] : Fin 2 → Nat) a + S1024x256.size a ≤ S1024x3840.size a) (hp : p = 2048 + o) (x : S512x256.Idx) :
    (k0_pay10 h (View.ld W (Rect.unit ![0, p] S1024x256.size inb')) : FVec Ideal S512x256 .f32) x
      = secondBlock h W ((Rect.unit (s := S512x1792) ![0, o] S512x256.size inb).emb x) := by
  obtain ⟨r, j, rfl⟩ : ∃ (r : Fin 512) (j : Fin 256), x = ix2 r j := ⟨x 0, x 1, eq_ix2 _⟩
  unfold k0_pay10 secondBlock
  pointwise []
  refine Finset.sum_congr rfl fun l _ => ?_
  congr 2
  · funext a
    apply Fin.ext
    match a with
    | ⟨0, _⟩ => show r.val = 0 + 1 * r.val; omega
    | ⟨1, _⟩ => rfl
  · funext a
    apply Fin.ext
    match a with
    | ⟨0, _⟩ => first | rfl | (show 0 + 1 * l.val = l.val; omega)
    | ⟨1, _⟩ => show p + j.val = 2048 + (o + 1 * j.val); omega

theorem second_pieces : View.PiecesOf (secondBlock h W) (secondStores h W) :=
  ⟨fun x => second_eq h W 1536 3584 inb_S512x1792_S512x256_0_1536 inb_S1024x3840_S1024x256_0_3584 rfl x, fun x => second_eq h W 1280 3328 inb_S512x1792_S512x256_0_1280 inb_S1024x3840_S1024x256_0_3328 rfl x, fun x => second_eq h W 1024 3072 inb_S512x1792_S512x256_0_1024 inb_S1024x3840_S1024x256_0_3072 rfl x, fun x => second_eq h W 768 2816 inb_S512x1792_S512x256_0_768 inb_S1024x3840_S1024x256_0_2816 rfl x, fun x => second_eq h W 512 2560 inb_S512x1792_S512x256_0_512 inb_S1024x3840_S1024x256_0_2560 rfl x, fun x => second_eq h W 256 2304 inb_S512x1792_S512x256_0_256 inb_S1024x3840_S1024x256_0_2304 rfl x, fun x => second_eq h W 0 2048 inb_S512x1792_S512x256_0_0 inb_S1024x3840_S1024x256_0_2048 rfl x, trivial⟩

theorem mem_second (o : ℕ) (inb : ∀ a, (![0, o] : Fin 2 → Nat) a + S512x256.size a ≤ S512x1792.size a) (r : Fin 512) (j : Fin 1792)
    (h1 : o ≤ j.val) (h2 : j.val < o + 256) : (ix2 r j : S512x1792.Idx) ∈ (Rect.unit (s := S512x1792) ![0, o] S512x256.size inb).set := by
  rw [Rect.mem_set_unit]
  intro a
  match a with
  | ⟨0, _⟩ => exact ⟨Nat.zero_le _, by show r.val < 0 + 512; omega⟩
  | ⟨1, _⟩ => exact ⟨h1, h2⟩

theorem secondStores_apply (r : Fin 512) (j : Fin 1792) :
    View.canon (secondStores h W) (ix2 r j) = ∑ l : Fin 1024, h (ix2 r l) * W (ix2 l (secondCol j)) := by
  have hr := r.isLt
  have hj := j.isLt
  rw [← List.append_nil (secondStores h W)]
  refine View.canon_append_of_piecesOf (secondBlock h W) [] (secondStores h W)
    (second_pieces h W) (ix2 r j) ?_
  unfold secondStores
  by_cases h0 : j.val < 256
  · exact ⟨_, .tail _ (.tail _ (.tail _ (.tail _ (.tail _ (.tail _ (.head _)))))), mem_second 0 inb_S512x1792_S512x256_0_0 r j (by omega) (by omega)⟩
  by_cases h1 : j.val < 512
  · exact ⟨_, .tail _ (.tail _ (.tail _ (.tail _ (.tail _ (.head _))))), mem_second 256 inb_S512x1792_S512x256_0_256 r j (by omega) (by omega)⟩
  by_cases h2 : j.val < 768
  · exact ⟨_, .tail _ (.tail _ (.tail _ (.tail _ (.head _)))), mem_second 512 inb_S512x1792_S512x256_0_512 r j (by omega) (by omega)⟩
  by_cases h3 : j.val < 1024
  · exact ⟨_, .tail _ (.tail _ (.tail _ (.head _))), mem_second 768 inb_S512x1792_S512x256_0_768 r j (by omega) (by omega)⟩
  by_cases h4 : j.val < 1280
  · exact ⟨_, .tail _ (.tail _ (.head _)), mem_second 1024 inb_S512x1792_S512x256_0_1024 r j (by omega) (by omega)⟩
  by_cases h5 : j.val < 1536
  · exact ⟨_, .tail _ (.head _), mem_second 1280 inb_S512x1792_S512x256_0_1280 r j (by omega) (by omega)⟩
  exact ⟨_, .head _, mem_second 1536 inb_S512x1792_S512x256_0_1536 r j (by omega) (by omega)⟩

end

section
variable (c : Dev nD) (i : grid0.Coords) (a1 : Memref sig .tc .vmem S512x1024 .f32) (h1 : a1.IsWhole)
  (a2 : Memref sig .tc .vmem S1x1024 .f32) (h2 : a2.IsWhole) (a3 : Memref sig .tc .vmem S1024x3840 .bf16) (h3 : a3.IsWhole)
  (a4 : Memref sig .tc .vmem S512x2048 .f32) (h4 : a4.IsWhole) (a5 : Memref sig .tc .vmem S512x1792 .f32) (h5 : a5.IsWhole)
  (a6 : Memref sig .tc .vmem S512x1024 .bf16) (h6 : a6.IsWhole)
  (x : Vec Ideal S512x1024 .f32) (n : Vec Ideal S1x1024 .f32) (W : Vec Ideal S1024x3840 .bf16)

/-- The first output block of a point. -/
theorem out_first : out0_A_3 c i a1 h1 a2 h2 a3 h3 a4 h4 a5 h5 a6 h6 x n W = View.canon (firstStores (k0_pay5 x n) W) := by
  unfold out0_A_3
  rw [View.read_writes_eq_canon _ _ _ (cover0_A_3 c i a1 h1 a2 h2 a3 h3 a4 h4 a5 h5 a6 h6 x n W)]
  unfold kernelRun0_A
  dsimp only
  sl_unfold_words
  simp only [View.readAt_eq_ld, h1.read_unread, h2.read_unread, h3.read_unread,
    View.ld_unit_zero (S := S512x1024) offs2, View.ld_unit_zero (S := S1x1024) offs2,
    View.readCov_fill (s := S512x1024) _ _ _ _ _ (congrFun offs2)]
  rfl

/-- The second output block of a point. -/
theorem out_second : out0_A_4 c i a1 h1 a2 h2 a3 h3 a4 h4 a5 h5 a6 h6 x n W = View.canon (secondStores (k0_pay5 x n) W) := by
  unfold out0_A_4
  rw [View.read_writes_eq_canon _ _ _ (cover0_A_4 c i a1 h1 a2 h2 a3 h3 a4 h4 a5 h5 a6 h6 x n W)]
  unfold kernelRun0_A
  dsimp only
  sl_unfold_words
  simp only [View.readAt_eq_ld, h1.read_unread, h2.read_unread, h3.read_unread,
    View.ld_unit_zero (S := S512x1024) offs2, View.ld_unit_zero (S := S1x1024) offs2,
    View.readCov_fill (s := S512x1024) _ _ _ _ _ (congrFun offs2)]
  rfl

/-- Both blocks, entry by entry. -/
theorem first_apply (r : Fin 512) (j : Fin 2048) : out0_A_3 c i a1 h1 a2 h2 a3 h3 a4 h4 a5 h5 a6 h6 x n W (ix2 r j)
    = column (fun j => x (ix2 r j)) (fun j => n (ix2 0 j)) (fun l k => W (ix2 l k)) (firstCol j) := by
  rw [out_first, firstStores_apply]
  exact Finset.sum_congr rfl fun l _ => by rw [normed_apply]
theorem second_apply (r : Fin 512) (j : Fin 1792) : out0_A_4 c i a1 h1 a2 h2 a3 h3 a4 h4 a5 h5 a6 h6 x n W (ix2 r j)
    = column (fun j => x (ix2 r j)) (fun j => n (ix2 0 j)) (fun l k => W (ix2 l k)) (secondCol j) := by
  rw [out_second, secondStores_apply]
  exact Finset.sum_congr rfl fun l _ => by rw [normed_apply]

end

end Proj

end
-- ==== Proof.Proj.Final.lean ====
/- The kernel's two result arrays, whole: row `R` holds the in-projection of row `R` of the arguments. -/
module

public import proofs.«01_k».proof.Proof.Proj.Payload
public import proofs.«01_k».proof.Proof.Gen.ProjIdeal.Value
public import Idealize.ShloMosaic.Lib.StableHlo.RunRead

@[expose] public section

set_option maxRecDepth 16384

noncomputable section

namespace Proj

open Idealize.ShloMosaic Idealize.ShloMosaic.TcCoe Idealize.SL.Sem
open Cert.ProjIdeal Cert.ProjIdeal.Gen

/-- The in-projection of whole arrays: the first mixer's columns, and the second's. -/
def firstOf (x : FVec Ideal S32768x1024 .f32) (n : FVec Ideal S1x1024 .f32) (w : FVec Ideal S1024x3840 .f32) :
    FVec Ideal S32768x2048 .f32 := fun i =>
  column (fun j => x (ix2 (i 0) j)) (fun j => n (ix2 0 j)) (fun l k => w (ix2 l k)) (firstCol (i 1))
def secondOf (x : FVec Ideal S32768x1024 .f32) (n : FVec Ideal S1x1024 .f32) (w : FVec Ideal S1024x3840 .f32) :
    FVec Ideal S32768x1792 .f32 := fun i =>
  column (fun j => x (ix2 (i 0) j)) (fun j => n (ix2 0 j)) (fun l k => w (ix2 l k)) (secondCol (i 1))

theorem points : cfg0.N = 64 := N_0
theorem point_lt (t : Fin cfg0.N) : t.val < 64 := lt_of_lt_of_eq t.isLt points

variable (m : (ℓ : Loc nD τ sig) → Buf (Elt Ideal) ℓ) (c : Dev nD)

def rowOf (t : Fin cfg0.N) (r : Fin 512) : Fin 32768 := ⟨512 * t.val + r.val, by have := point_lt t; omega⟩

/-- Every point writes its blocks back. -/
theorem flush_first : ∀ t : Fin cfg0.N, (cfg0.win 3).flush t = true := by decide +kernel
theorem flush_second : ∀ t : Fin cfg0.N, (cfg0.win 4).flush t = true := by decide +kernel
theorem index_3 : ∀ t : Fin cfg0.N, win0_3.index t 0 = t.val ∧ win0_3.index t 1 = 0
    ∧ win0_3.xsize (grid0.coords t) 0 = 512 ∧ win0_3.xsize (grid0.coords t) 1 = 2048 := by decide +kernel
theorem index_4 : ∀ t : Fin cfg0.N, win0_4.index t 0 = t.val ∧ win0_4.index t 1 = 0
    ∧ win0_4.xsize (grid0.coords t) 0 = 512 ∧ win0_4.xsize (grid0.coords t) 1 = 1792 := by decide +kernel
theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = 0 ∧ win0_2.index t 1 = 0 := by decide +kernel

/-- The host's cast of the weights changes nothing over the extended reals. -/
theorem cast_2 : (V m c main_v0 : S1024x3840.Idx → EReal) = (m (c.tc.loc main_arg2) : FVec Ideal S1024x3840 .f32) := by
  unfold V
  after_reads_simp
  rfl

/-! ## The blocks a point reads -/

theorem block_0 (t : Fin cfg0.N) (k : Fin 512) (j : Fin 1024) :
    (iblk m c 0 t : Vec Ideal S512x1024 .f32) (ix2 k j) = (m (c.tc.loc main_arg0) : FVec Ideal S32768x1024 .f32) (ix2 (rowOf t k) j) := by
  have hi := index_0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * k.val = 512 * t.val + k.val; rw [hi.1]; omega
  | ⟨1, _⟩ => show win0_0.index t 1 * 1024 + 1 * j.val = j.val; rw [hi.2]; omega

theorem block_1 (t : Fin cfg0.N) (k : Fin 1) (j : Fin 1024) :
    (iblk m c 1 t : Vec Ideal S1x1024 .f32) (ix2 k j) = (m (c.tc.loc main_arg1) : FVec Ideal S1x1024 .f32) (ix2 k j) := by
  have hi := index_1 t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * k.val = k.val; rw [hi.1]; omega
  | ⟨1, _⟩ => show win0_1.index t 1 * 1024 + 1 * j.val = j.val; rw [hi.2]; omega

theorem block_2 (t : Fin cfg0.N) (k : Fin 1024) (j : Fin 3840) :
    (iblk m c 2 t : Vec Ideal S1024x3840 .bf16) (ix2 k j) = (m (c.tc.loc main_arg2) : FVec Ideal S1024x3840 .f32) (ix2 k j) := by
  have hi := index_2 t
  unfold iblk
  rw [View.read_apply]
  show V m c main_v0 _ = m (c.tc.loc main_arg2) _
  rw [cast_2]
  congr 1
  funext a
  apply Fin.ext
  match a with
  | ⟨0, _⟩ => show win0_2.index t 0 * 1024 + 1 * k.val = k.val; rw [hi.1]; omega
  | ⟨1, _⟩ => show win0_2.index t 1 * 3840 + 1 * j.val = j.val; rw [hi.2]; omega

/-- The first result array's contents: the projection of the arguments as launched. -/
abbrev firstResult : Buf (Elt Ideal) ((c : Thread nD τ).loc main_v1_0) :=
  firstOf (m (c.tc.loc main_arg0)) (m (c.tc.loc main_arg1)) (m (c.tc.loc main_arg2))

/-- What a point writes back is its block of it. -/
theorem first_flushed (t : Fin cfg0.N) (hf : (cfg0.win 3).flush t = true) :
    (dats m 0 c).flushed 3 t = ((cfg0.win 3).blk t).view.read (Elt Ideal) (firstResult m c) := by
  have hi := index_3 t
  have hN := point_lt t
  rw [Cert.ProjIdeal.Value.flushed3_A]
  funext j
  rw [View.read_apply]
  obtain ⟨r, q, rfl⟩ : ∃ (r : Fin 512) (q : Fin 2048), j = ix2 r q := ⟨j 0, j 1, eq_ix2 (n0 := 512) (n1 := 2048) j⟩
  refine (first_apply _ _ _ _ _ _ _ _ _ _ _ _ _ _ _ _ _ r q).trans ?_
  simp only [block_0, block_1, block_2]
  show firstResult m c (ix2 (rowOf t r) q) = firstResult m c _
  congr 1
  funext a
  apply Fin.ext
  match a with
  | ⟨0, _⟩ => show 512 * t.val + r.val = win0_3.index t 0 * 512 + 1 * r.val; rw [hi.1]; omega
  | ⟨1, _⟩ => show q.val = win0_3.index t 1 * 2048 + 1 * q.val; rw [hi.2.1]; omega

/-- The written blocks cover the array. -/
theorem first_cover (i : S32768x2048.Idx) :
    ∃ t : Fin cfg0.N, (cfg0.win 3).flush t = true ∧ i ∈ ((cfg0.win 3).blk t).view.set := by
  have h0 : (i 0 : Nat) < 32768 := (i 0).isLt
  have h1 : (i 1 : Nat) < 2048 := (i 1).isLt
  refine ⟨⟨(i 0 : Nat) / 512, by rw [points]; omega⟩, flush_first _, ?_⟩
  generalize ht : (⟨(i 0 : Nat) / 512, _⟩ : Fin cfg0.N) = t
  have hv : (i 0 : Nat) / 512 = t.val := by rw [← ht]
  have hi := index_3 t
  show i ∈ ((View.whole main_v1_0).slice (win0_3.rect t)).set
  rw [View.set_slice_whole, Rect.mem_set_unit]
  intro a
  match a with
  | ⟨0, _⟩ => show win0_3.index t 0 * 512 ≤ (i 0 : Nat) ∧ (i 0 : Nat) < win0_3.index t 0 * 512 + win0_3.xsize (grid0.coords t) 0
              rw [hi.1, hi.2.2.1]; omega
  | ⟨1, _⟩ => show win0_3.index t 1 * 2048 ≤ (i 1 : Nat) ∧ (i 1 : Nat) < win0_3.index t 1 * 2048 + win0_3.xsize (grid0.coords t) 1
              rw [hi.2.1, hi.2.2.2]; omega

/-- So the array ends holding the projection of the arguments. -/
theorem first_final : (dats m 0 c).arrAt 3 cfg0.N = firstResult m c :=
  (dats m 0 c).arrAt_eq_of_cover 3 (firstResult m c) (first_flushed m c) first_cover

/-- The second result array's contents: the projection of the arguments as launched. -/
abbrev secondResult : Buf (Elt Ideal) ((c : Thread nD τ).loc main_v1_1) :=
  secondOf (m (c.tc.loc main_arg0)) (m (c.tc.loc main_arg1)) (m (c.tc.loc main_arg2))

/-- What a point writes back is its block of it. -/
theorem second_flushed (t : Fin cfg0.N) (hf : (cfg0.win 4).flush t = true) :
    (dats m 0 c).flushed 4 t = ((cfg0.win 4).blk t).view.read (Elt Ideal) (secondResult m c) := by
  have hi := index_4 t
  have hN := point_lt t
  rw [Cert.ProjIdeal.Value.flushed4_A]
  funext j
  rw [View.read_apply]
  obtain ⟨r, q, rfl⟩ : ∃ (r : Fin 512) (q : Fin 1792), j = ix2 r q := ⟨j 0, j 1, eq_ix2 (n0 := 512) (n1 := 1792) j⟩
  refine (second_apply _ _ _ _ _ _ _ _ _ _ _ _ _ _ _ _ _ r q).trans ?_
  simp only [block_0, block_1, block_2]
  show secondResult m c (ix2 (rowOf t r) q) = secondResult m c _
  congr 1
  funext a
  apply Fin.ext
  match a with
  | ⟨0, _⟩ => show 512 * t.val + r.val = win0_4.index t 0 * 512 + 1 * r.val; rw [hi.1]; omega
  | ⟨1, _⟩ => show q.val = win0_4.index t 1 * 1792 + 1 * q.val; rw [hi.2.1]; omega

/-- The written blocks cover the array. -/
theorem second_cover (i : S32768x1792.Idx) :
    ∃ t : Fin cfg0.N, (cfg0.win 4).flush t = true ∧ i ∈ ((cfg0.win 4).blk t).view.set := by
  have h0 : (i 0 : Nat) < 32768 := (i 0).isLt
  have h1 : (i 1 : Nat) < 1792 := (i 1).isLt
  refine ⟨⟨(i 0 : Nat) / 512, by rw [points]; omega⟩, flush_second _, ?_⟩
  generalize ht : (⟨(i 0 : Nat) / 512, _⟩ : Fin cfg0.N) = t
  have hv : (i 0 : Nat) / 512 = t.val := by rw [← ht]
  have hi := index_4 t
  show i ∈ ((View.whole main_v1_1).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + win0_4.xsize (grid0.coords t) 0
              rw [hi.1, hi.2.2.1]; omega
  | ⟨1, _⟩ => show win0_4.index t 1 * 1792 ≤ (i 1 : Nat) ∧ (i 1 : Nat) < win0_4.index t 1 * 1792 + win0_4.xsize (grid0.coords t) 1
              rw [hi.2.1, hi.2.2.2]; omega

/-- So the array ends holding the projection of the arguments. -/
theorem second_final : (dats m 0 c).arrAt 4 cfg0.N = secondResult m c :=
  (dats m 0 c).arrAt_eq_of_cover 4 (secondResult m c) (second_flushed m c) second_cover

end Proj

end
-- ==== Proof.Proj.Reference.lean ====
/- The reference's two composed terms are the in-projection's columns, index by index. -/
module

public import proofs.«01_k».proof.Proof.Proj.Final
public import proofs.«01_k».proof.Proof.Gen.ProjReferenceIdeal.Run
public import Idealize.ShloMosaic.Lib.Tactic.CleanTypes

@[expose] public section

set_option maxRecDepth 16384

noncomputable section

namespace Proj

open Idealize.ShloMosaic Idealize.ShloMosaic.TcCoe Idealize.SL.Sem
open Cert.ProjReferenceIdeal Cert.ProjReferenceIdeal.Gen

variable (x : FVec Ideal S32768x1024 .f32) (n : FVec Ideal S1x1024 .f32) (w : FVec Ideal S1024x3840 .f32)

/-- The reference's term for the first mixer's columns. -/
def firstTerm : FVec Ideal S32768x2048 .f32 :=
  extractStridedSlice S32768x2048 ![0, 0] (Host.dotGeneral dot_S32768x1024_S1024x3840_S32768x3840_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 n)) w) slices_S32768x3840_S32768x2048_0_0

theorem first_reference : firstTerm x n w = firstOf x n w := by
  unfold firstTerm
  funext i
  obtain ⟨r, q, rfl⟩ : ∃ (r : Fin 32768) (q : Fin 2048), i = ix2 r q := ⟨i 0, i 1, eq_ix2 (n0 := 32768) (n1 := 2048) i⟩
  pointwise [firstOf, column, Ffn.rms, firstCol]

/-- The reference's term for the second mixer's columns. -/
def secondTerm : FVec Ideal S32768x1792 .f32 :=
  extractStridedSlice S32768x1792 ![0, 2048] (Host.dotGeneral dot_S32768x1024_S1024x3840_S32768x3840_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 n)) w) slices_S32768x3840_S32768x1792_0_2048

theorem second_reference : secondTerm x n w = secondOf x n w := by
  unfold secondTerm
  funext i
  obtain ⟨r, q, rfl⟩ : ∃ (r : Fin 32768) (q : Fin 1792), i = ix2 r q := ⟨i 0, i 1, eq_ix2 (n0 := 32768) (n1 := 1792) i⟩
  pointwise [secondOf, column, Ffn.rms, secondCol]

end Proj

end
-- ==== Proof.Ffn.Payload.lean ====
/- What the kernel's stored values are, row by row: each row of a block goes through the mathematics of `Spec` alone. -/
module

public import proofs.«01_k».proof.Proof.Ffn.Spec
public import proofs.«01_k».proof.Proof.Gen.FfnIdeal.Frame
public import Idealize.ShloMosaic.Lib.Pipeline.Value

@[expose] public section

set_option maxRecDepth 16384

noncomputable section

namespace Ffn

open Idealize.ShloMosaic Idealize.ShloMosaic.TcCoe Idealize.SL.Sem
open Cert.FfnIdeal Cert.FfnIdeal.Gen

theorem offs_zero : (![0, 0] : Fin 2 → Nat) = fun _ => 0 := funext fun a => by fin_cases a <;> rfl

section
variable (x : Vec Ideal S256x1024 .f32) (o o' : Vec Ideal S256x512 .bf16) (wo : Vec Ideal S1024x1024 .bf16)
  (n2 : Vec Ideal S1x1024 .f32) (w1 w3 : Vec Ideal S1024x2816 .bf16) (w2 : Vec Ideal S2816x1024 .bf16) (fn : Vec Ideal S1x1024 .f32)
  (r : Fin 256)

/-- Row `r` of the first residual stream is `mix` of the rows of the block's inputs. -/
def stream (r : Fin 256) : Fin 1024 → EReal :=
  mix (fun j => x (ix2 r j)) (fun k => o (ix2 r k)) (fun k => o' (ix2 r k)) (fun k j => wo (ix2 k j))

theorem stream_apply (j : Fin 1024) :
    k0_pay2 x o (View.ld wo r0_2) o' (View.ld wo r0_3) (ix2 r j) = stream x o o' wo r j := by
  unfold k0_pay2 stream mix first second
  rw [← add_assoc]
  pointwise []

/-- Row `r` of the normalised stream. -/
theorem normed_apply (j : Fin 1024) :
    k0_pay3 x o (View.ld wo r0_2) o' (View.ld wo r0_3) n2 (ix2 r j) = rms (stream x o o' wo r) (fun j => n2 (ix2 0 j)) j := by
  unfold k0_pay3 rms
  pointwise [stream_apply]

/-- Row `r` of the gate's projection and of the other one. -/
theorem gate_apply (k : Fin 2816) :
    k0_pay4 x o (View.ld wo r0_2) o' (View.ld wo r0_3) n2 w1 (ix2 r k)
      = proj (rms (stream x o o' wo r) (fun j => n2 (ix2 0 j))) (fun l k => w1 (ix2 l k)) k := by
  unfold k0_pay4 proj
  pointwise [normed_apply]
theorem other_apply (k : Fin 2816) :
    k0_pay5 x o (View.ld wo r0_2) o' (View.ld wo r0_3) n2 w3 (ix2 r k)
      = proj (rms (stream x o o' wo r) (fun j => n2 (ix2 0 j))) (fun l k => w3 (ix2 l k)) k := by
  unfold k0_pay5 proj
  pointwise [normed_apply]
theorem exp_apply (k : Fin 2816) :
    k0_pay6 x o (View.ld wo r0_2) o' (View.ld wo r0_3) n2 w1 (ix2 r k)
      = Ideal.exp (0 - proj (rms (stream x o o' wo r) (fun j => n2 (ix2 0 j))) (fun l k => w1 (ix2 l k)) k) := by
  unfold k0_pay6
  pointwise [gate_apply]

/-- Row `r` of what the point writes, over the values it is made of. -/
theorem last_apply (v : FVec Ideal S256x1024 .f32) (a u e : FVec Ideal S256x2816 .f32) (j : Fin 1024) :
    k0_pay1 v a u e (Scalar.ofBits .f32 0x3F800000#32) w2 fn (ix2 r j)
      = rms (fun j => v (ix2 r j) + ∑ k : Fin 2816, a (ix2 r k) * Ideal.div 1 (1 + e (ix2 r k)) * u (ix2 r k) * w2 (ix2 k j))
          (fun j => fn (ix2 0 j)) j := by
  unfold k0_pay1 rms
  pointwise []

/-- What a point writes, row by row. -/
theorem written_apply (j : Fin 1024) :
    out0_9 x o o' wo n2 w1 w3 w2 fn (ix2 r j)
      = rms (ffn (fun j => x (ix2 r j)) (fun k => o (ix2 r k)) (fun k => o' (ix2 r k)) (fun j => n2 (ix2 0 j)) (fun k j => wo (ix2 k j))
          (fun l k => w1 (ix2 l k)) (fun l k => w3 (ix2 l k)) (fun k j => w2 (ix2 k j))) (fun j => fn (ix2 0 j)) j := by
  unfold out0_9
  rw [View.canon_unit_zero offs_zero]
  simp only [View.ld_unit_zero (S := S256x1024) offs_zero, View.ld_unit_zero (S := S256x512) offs_zero,
    View.ld_unit_zero (S := S1x1024) offs_zero, View.ld_unit_zero (S := S1024x2816) offs_zero,
    View.ld_unit_zero (S := S2816x1024) offs_zero]
  rw [last_apply]
  simp only [stream_apply, gate_apply, other_apply, exp_apply, logistic_spelled]
  rfl

end

end Ffn

end
-- ==== Proof.Ffn.Final.lean ====
/- The kernel's result array, whole: row `R` holds the layer's last stage on row `R` of the arguments. -/
module

public import proofs.«01_k».proof.Proof.Ffn.Payload
public import proofs.«01_k».proof.Proof.Gen.FfnIdeal.Value
public import Idealize.ShloMosaic.Lib.StableHlo.RunRead

@[expose] public section

set_option maxRecDepth 16384

noncomputable section

namespace Ffn

open Idealize.ShloMosaic Idealize.ShloMosaic.TcCoe Idealize.SL.Sem
open Cert.FfnIdeal Cert.FfnIdeal.Gen

/-- The layer's last stage, of whole arrays. -/
def stage (x : FVec Ideal S32768x1024 .f32) (o o' : FVec Ideal S32768x512 .bf16) (wo : FVec Ideal S1024x1024 .f32)
    (n2 : FVec Ideal S1x1024 .f32) (w1 w3 : FVec Ideal S1024x2816 .f32) (w2 : FVec Ideal S2816x1024 .f32)
    (fn : FVec Ideal S1x1024 .f32) : FVec Ideal S32768x1024 .f32 := fun i =>
  rms (ffn (fun j => x (ix2 (i 0) j)) (fun k => o (ix2 (i 0) k)) (fun k => o' (ix2 (i 0) k)) (fun j => n2 (ix2 0 j)) (fun k j => wo (ix2 k j))
    (fun l k => w1 (ix2 l k)) (fun l k => w3 (ix2 l k)) (fun k j => w2 (ix2 k j))) (fun j => fn (ix2 0 j)) (i 1)

theorem points : cfg0.N = 128 := N_0
theorem point_lt (t : Fin cfg0.N) : t.val < 128 := lt_of_lt_of_eq t.isLt points

variable (m : (ℓ : Loc nD τ sig) → Buf (Elt Ideal) ℓ) (c : Dev nD)

def rowOf (t : Fin cfg0.N) (r : Fin 256) : Fin 32768 := ⟨256 * t.val + r.val, by have := point_lt t; omega⟩

/-- Every point writes its block back. -/
theorem flush_all : ∀ t : Fin cfg0.N, (cfg0.win 9).flush t = true := by decide +kernel
theorem index_out : ∀ t : Fin cfg0.N, win0_9.index t 0 = t.val ∧ win0_9.index t 1 = 0
    ∧ win0_9.xsize (grid0.coords t) 0 = 256 ∧ win0_9.xsize (grid0.coords t) 1 = 1024 := by decide +kernel
theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = 0 ∧ win0_6.index t 1 = 0 := by decide +kernel
theorem index_7 : ∀ t : Fin cfg0.N, win0_7.index t 0 = 0 ∧ win0_7.index t 1 = 0 := by decide +kernel
theorem index_8 : ∀ t : Fin cfg0.N, win0_8.index t 0 = 0 ∧ win0_8.index t 1 = 0 := by decide +kernel

/-! ## The host's casts of the weights, which over the extended reals change nothing -/

theorem cast_3 : (V m c main_v0 : S1024x1024.Idx → EReal) = (m (c.tc.loc main_arg3) : FVec Ideal S1024x1024 .f32) := by
  unfold V
  after_reads_simp
  rfl
theorem cast_5 : (V m c main_v1 : S1024x2816.Idx → EReal) = (m (c.tc.loc main_arg5) : FVec Ideal S1024x2816 .f32) := by
  unfold V
  after_reads_simp
  rfl
theorem cast_6 : (V m c main_v2 : S1024x2816.Idx → EReal) = (m (c.tc.loc main_arg6) : FVec Ideal S1024x2816 .f32) := by
  unfold V
  after_reads_simp
  rfl
theorem cast_7 : (V m c main_v3 : S2816x1024.Idx → EReal) = (m (c.tc.loc main_arg7) : FVec Ideal S2816x1024 .f32) := by
  unfold V
  after_reads_simp
  rfl

/-! ## The blocks a point reads -/

theorem block_0 (t : Fin cfg0.N) (r : Fin 256) (j : Fin 1024) :
    (iblk m c 0 t : Vec Ideal S256x1024 .f32) (ix2 r j) = (m (c.tc.loc main_arg0) : FVec Ideal S32768x1024 .f32) (ix2 (rowOf t r) j) := by
  have hi := index_0 t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = 256 * t.val + r.val; rw [hi.1]; omega
  | ⟨1, _⟩ => show win0_0.index t 1 * 1024 + 1 * j.val = j.val; rw [hi.2]; omega

theorem block_1 (t : Fin cfg0.N) (r : Fin 256) (j : Fin 512) :
    (iblk m c 1 t : Vec Ideal S256x512 .bf16) (ix2 r j) = (m (c.tc.loc main_arg1) : FVec Ideal S32768x512 .bf16) (ix2 (rowOf t r) j) := by
  have hi := index_1 t
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * r.val = 256 * t.val + r.val; rw [hi.1]; omega
  | ⟨1, _⟩ => show win0_1.index t 1 * 512 + 1 * j.val = j.val; rw [hi.2]; omega

theorem block_2 (t : Fin cfg0.N) (r : Fin 256) (j : Fin 512) :
    (iblk m c 2 t : Vec Ideal S256x512 .bf16) (ix2 r j) = (m (c.tc.loc main_arg2) : FVec Ideal S32768x512 .bf16) (ix2 (rowOf t r) j) := by
  have hi := index_2 t
  unfold iblk
  rw [View.read_apply]
  show V m c main_arg2 _ = m (c.tc.loc main_arg2) _
  rw [V_main_arg2]
  congr 1
  funext a
  apply Fin.ext
  match a with
  | ⟨0, _⟩ => show win0_2.index t 0 * 256 + 1 * r.val = 256 * t.val + r.val; rw [hi.1]; omega
  | ⟨1, _⟩ => show win0_2.index t 1 * 512 + 1 * j.val = j.val; rw [hi.2]; omega

theorem block_3 (t : Fin cfg0.N) (k : Fin 1024) (j : Fin 1024) :
    (iblk m c 3 t : Vec Ideal S1024x1024 .bf16) (ix2 k j) = (m (c.tc.loc main_arg3) : FVec Ideal S1024x1024 .f32) (ix2 k j) := by
  have hi := index_3 t
  unfold iblk
  rw [View.read_apply]
  show V m c main_v0 _ = m (c.tc.loc main_arg3) _
  rw [cast_3]
  congr 1
  funext a
  apply Fin.ext
  match a with
  | ⟨0, _⟩ => show win0_3.index t 0 * 1024 + 1 * k.val = k.val; rw [hi.1]; omega
  | ⟨1, _⟩ => show win0_3.index t 1 * 1024 + 1 * j.val = j.val; rw [hi.2]; omega

theorem block_4 (t : Fin cfg0.N) (k : Fin 1) (j : Fin 1024) :
    (iblk m c 4 t : Vec Ideal S1x1024 .f32) (ix2 k j) = (m (c.tc.loc main_arg4) : FVec Ideal S1x1024 .f32) (ix2 k j) := by
  have hi := index_4 t
  unfold iblk
  rw [View.read_apply]
  show V m c main_arg4 _ = m (c.tc.loc main_arg4) _
  rw [V_main_arg4]
  congr 1
  funext a
  apply Fin.ext
  match a with
  | ⟨0, _⟩ => show win0_4.index t 0 * 1 + 1 * k.val = k.val; rw [hi.1]; omega
  | ⟨1, _⟩ => show win0_4.index t 1 * 1024 + 1 * j.val = j.val; rw [hi.2]; omega

theorem block_5 (t : Fin cfg0.N) (k : Fin 1024) (j : Fin 2816) :
    (iblk m c 5 t : Vec Ideal S1024x2816 .bf16) (ix2 k j) = (m (c.tc.loc main_arg5) : FVec Ideal S1024x2816 .f32) (ix2 k j) := by
  have hi := index_5 t
  unfold iblk
  rw [View.read_apply]
  show V m c main_v1 _ = m (c.tc.loc main_arg5) _
  rw [cast_5]
  congr 1
  funext a
  apply Fin.ext
  match a with
  | ⟨0, _⟩ => show win0_5.index t 0 * 1024 + 1 * k.val = k.val; rw [hi.1]; omega
  | ⟨1, _⟩ => show win0_5.index t 1 * 2816 + 1 * j.val = j.val; rw [hi.2]; omega

theorem block_6 (t : Fin cfg0.N) (k : Fin 1024) (j : Fin 2816) :
    (iblk m c 6 t : Vec Ideal S1024x2816 .bf16) (ix2 k j) = (m (c.tc.loc main_arg6) : FVec Ideal S1024x2816 .f32) (ix2 k j) := by
  have hi := index_6 t
  unfold iblk
  rw [View.read_apply]
  show V m c main_v2 _ = m (c.tc.loc main_arg6) _
  rw [cast_6]
  congr 1
  funext a
  apply Fin.ext
  match a with
  | ⟨0, _⟩ => show win0_6.index t 0 * 1024 + 1 * k.val = k.val; rw [hi.1]; omega
  | ⟨1, _⟩ => show win0_6.index t 1 * 2816 + 1 * j.val = j.val; rw [hi.2]; omega

theorem block_7 (t : Fin cfg0.N) (k : Fin 2816) (j : Fin 1024) :
    (iblk m c 7 t : Vec Ideal S2816x1024 .bf16) (ix2 k j) = (m (c.tc.loc main_arg7) : FVec Ideal S2816x1024 .f32) (ix2 k j) := by
  have hi := index_7 t
  unfold iblk
  rw [View.read_apply]
  show V m c main_v3 _ = m (c.tc.loc main_arg7) _
  rw [cast_7]
  congr 1
  funext a
  apply Fin.ext
  match a with
  | ⟨0, _⟩ => show win0_7.index t 0 * 2816 + 1 * k.val = k.val; rw [hi.1]; omega
  | ⟨1, _⟩ => show win0_7.index t 1 * 1024 + 1 * j.val = j.val; rw [hi.2]; omega

theorem block_8 (t : Fin cfg0.N) (k : Fin 1) (j : Fin 1024) :
    (iblk m c 8 t : Vec Ideal S1x1024 .f32) (ix2 k j) = (m (c.tc.loc main_arg8) : FVec Ideal S1x1024 .f32) (ix2 k j) := by
  have hi := index_8 t
  unfold iblk
  rw [View.read_apply]
  show V m c main_arg8 _ = m (c.tc.loc main_arg8) _
  rw [V_main_arg8]
  congr 1
  funext a
  apply Fin.ext
  match a with
  | ⟨0, _⟩ => show win0_8.index t 0 * 1 + 1 * k.val = k.val; rw [hi.1]; omega
  | ⟨1, _⟩ => show win0_8.index t 1 * 1024 + 1 * j.val = j.val; rw [hi.2]; omega

/-- The result array's contents: the last stage of the arguments as launched. -/
abbrev result : Buf (Elt Ideal) ((c : Thread nD τ).loc main_v4) :=
  stage (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))

/-- What a point writes back is its block of the result. -/
theorem flushed_eq (t : Fin cfg0.N) (hf : (cfg0.win 9).flush t = true) :
    (dats m 0 c).flushed 9 t = ((cfg0.win 9).blk t).view.read (Elt Ideal) (result m c) := by
  have hi := index_out t
  have hN := point_lt t
  rw [Cert.FfnIdeal.Value.flushed9]
  funext j
  rw [View.read_apply]
  obtain ⟨r, q, rfl⟩ : ∃ (r : Fin 256) (q : Fin 1024), j = ix2 r q := ⟨j 0, j 1, eq_ix2 (n0 := 256) (n1 := 1024) j⟩
  refine (written_apply _ _ _ _ _ _ _ _ _ r q).trans ?_
  simp only [block_0, block_1, block_2, block_3, block_4, block_5, block_6, block_7, block_8]
  show result m c (ix2 (rowOf t r) q) = result m c _
  congr 1
  funext a
  apply Fin.ext
  match a with
  | ⟨0, _⟩ => show 256 * t.val + r.val = win0_9.index t 0 * 256 + 1 * r.val; rw [hi.1]; omega
  | ⟨1, _⟩ => show q.val = win0_9.index t 1 * 1024 + 1 * q.val; rw [hi.2.1]; omega

/-- The written blocks cover the result array. -/
theorem cover (i : S32768x1024.Idx) :
    ∃ t : Fin cfg0.N, (cfg0.win 9).flush t = true ∧ i ∈ ((cfg0.win 9).blk t).view.set := by
  have h0 : (i 0 : Nat) < 32768 := (i 0).isLt
  have h1 : (i 1 : Nat) < 1024 := (i 1).isLt
  refine ⟨⟨(i 0 : Nat) / 256, by rw [points]; omega⟩, flush_all _, ?_⟩
  generalize ht : (⟨(i 0 : Nat) / 256, _⟩ : Fin cfg0.N) = t
  have hv : (i 0 : Nat) / 256 = t.val := by rw [← ht]
  have hi := index_out t
  show i ∈ ((View.whole main_v4).slice (win0_9.rect t)).set
  rw [View.set_slice_whole, Rect.mem_set_unit]
  intro a
  match a with
  | ⟨0, _⟩ => show win0_9.index t 0 * 256 ≤ (i 0 : Nat) ∧ (i 0 : Nat) < win0_9.index t 0 * 256 + win0_9.xsize (grid0.coords t) 0
              rw [hi.1, hi.2.2.1]; omega
  | ⟨1, _⟩ => show win0_9.index t 1 * 1024 ≤ (i 1 : Nat) ∧ (i 1 : Nat) < win0_9.index t 1 * 1024 + win0_9.xsize (grid0.coords t) 1
              rw [hi.2.1, hi.2.2.2]; omega

/-- So the result array ends holding the last stage of the arguments. -/
theorem final : (dats m 0 c).arrAt 9 cfg0.N = result m c :=
  (dats m 0 c).arrAt_eq_of_cover 9 (result m c) (flushed_eq m c) cover

end Ffn

end
-- ==== Proof.Ffn.Reference.lean ====
/- The reference's composed term is the layer's last stage, index by index. -/
module

public import proofs.«01_k».proof.Proof.Ffn.Final
public import proofs.«01_k».proof.Proof.Gen.FfnReferenceIdeal.Run
public import Idealize.ShloMosaic.Lib.Tactic.CleanTypes

@[expose] public section

set_option maxRecDepth 16384

noncomputable section

namespace Ffn

open Idealize.ShloMosaic Idealize.ShloMosaic.TcCoe Idealize.SL.Sem
open Cert.FfnReferenceIdeal Cert.FfnReferenceIdeal.Gen

/-- The reference returns the last stage of its arguments. -/
theorem reference_eq (m : (ℓ : Loc nD τ sig) → Buf (Elt Ideal) ℓ) (c : Dev nD) :
    Cert.FfnReferenceIdeal.Value.res_out0 m c
      = stage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.FfnReferenceIdeal.Value.res_out0 Cert.FfnReferenceIdeal.Value.res_main_v34
  clean_types
  generalize (m ((c.tc : Thread nD τ).loc main_arg0)) = x
  generalize (m ((c.tc : Thread nD τ).loc main_arg1)) = o
  generalize (m ((c.tc : Thread nD τ).loc main_arg2)) = o'
  generalize (m ((c.tc : Thread nD τ).loc main_arg3)) = wo
  generalize (m ((c.tc : Thread nD τ).loc main_arg4)) = n2
  generalize (m ((c.tc : Thread nD τ).loc main_arg5)) = w1
  generalize (m ((c.tc : Thread nD τ).loc main_arg6)) = w3
  generalize (m ((c.tc : Thread nD τ).loc main_arg7)) = w2
  generalize (m ((c.tc : Thread nD τ).loc main_arg8)) = fn
  funext i
  obtain ⟨r, q, rfl⟩ : ∃ (r : Fin 32768) (q : Fin 1024), i = ix2 r q := ⟨i 0, i 1, eq_ix2 (n0 := 32768) (n1 := 1024) i⟩
  pointwise [stage, rms, ffn, hidden, proj, mix, first, second, Ideal.logistic]

end Ffn

end
-- ==== Proof.lean ====
/- The certificate: the recurrence, the in-projection and the last stage of the layer, each against the reference's lines for
   the same part; and the frame of the second mixer's recurrence. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Rwkv
public import proofs.«01_k».proof.Proof.Gen.Rwkv.Skeleton
public import proofs.«01_k».proof.Proof.Gen.Rwkv.Launch
public import proofs.«01_k».proof.Proof.Gen.Rwkv.Points
public import proofs.«01_k».proof.Proof.Gen.Rwkv.Frame
public import proofs.«01_k».proof.Proof.Gen.RwkvIdeal
public import proofs.«01_k».proof.Proof.Gen.RwkvIdeal.Skeleton
public import proofs.«01_k».proof.Proof.Gen.RwkvIdeal.Launch
public import proofs.«01_k».proof.Proof.Gen.RwkvIdeal.Points
public import proofs.«01_k».proof.Proof.Gen.RwkvIdeal.Frame
public import proofs.«01_k».proof.Proof.Hgrn.Final
public import proofs.«01_k».proof.Proof.Hgrn.Reference
public import proofs.«01_k».proof.Proof.Proj.Reference
public import proofs.«01_k».proof.Proof.Ffn.Reference
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The recurrence: the kernel's result array is the reference's, element by element. -/
theorem recurrence_equal : Cert.algebraic_KernelIdeal_ReferenceIdeal := by
  intro m g m' g' _ hagree
  refine ⟨fun c => Hgrn.result m c, ?_, ?_⟩
  · refine (θ_run Cert.KernelIdeal.defs _ _).mono (fun r h c => ?_) (Cert.KernelIdeal.Value.run (F := Ideal) m g)
    obtain ⟨h0, hr⟩ := h c
    exact ⟨h0.trans (Hgrn.result_eq m c), hr⟩
  · refine (θ_run Cert.ReferenceIdeal.defs _ _).mono (fun r h c => ?_) (Cert.ReferenceIdeal.Value.run (F := Ideal) m' g')
    obtain ⟨h0, hr⟩ := h c
    refine ⟨h0.trans (funext fun i => ?_), hr⟩
    obtain ⟨e0, e1, e2⟩ := hagree c
    have hP : Hgrn.refP m' c = Hgrn.kerP m c := by unfold Hgrn.refP Hgrn.kerP; rw [e0]
    have hW : Hgrn.refW m' c = Hgrn.kerW m c := by unfold Hgrn.refW Hgrn.kerW; rw [e1]
    have hN : Hgrn.refN m' c = Hgrn.kerN m c := by unfold Hgrn.refN Hgrn.kerN; rw [e2]
    obtain ⟨b, t, j, rfl⟩ : ∃ (b : Fin 4) (t : Fin 8192) (j : Fin 512), i = ix3 b t j := ⟨i 0, i 1, i 2, eq_ix3 _⟩
    refine (Hgrn.reference_eq m' c b t j).trans ?_
    rw [hP, hW, hN]
    rfl

/-- The in-projection: both result arrays are the reference's. -/
theorem projection_equal : Cert.algebraic_ProjIdeal_ProjReferenceIdeal := by
  intro m g m' g' _ hagree
  refine ⟨fun c => Proj.firstResult m c, fun c => Proj.secondResult m c, ?_, ?_⟩
  · refine (θ_run Cert.ProjIdeal.defs _ _).mono (fun r h c => ?_) (Cert.ProjIdeal.Value.run_blocks (F := Ideal) m g)
    obtain ⟨h0, h1, hr⟩ := h c
    exact ⟨h0.trans (Proj.first_final m c), h1.trans (Proj.second_final m c), hr⟩
  · refine (θ_run Cert.ProjReferenceIdeal.defs _ _).mono (fun r h c => ?_) (Cert.ProjReferenceIdeal.Value.run (F := Ideal) m' g')
    obtain ⟨h0, h1, hr⟩ := h c
    obtain ⟨e0, e1, e2⟩ := hagree c
    refine ⟨h0.trans ((Proj.first_reference _ _ _).trans ?_), h1.trans ((Proj.second_reference _ _ _).trans ?_), hr⟩
    · rw [e0, e1, e2]
    · rw [e0, e1, e2]

/-- The last stage: the kernel's result array is the reference's. -/
theorem stage_equal : Cert.algebraic_FfnIdeal_FfnReferenceIdeal := by
  intro m g m' g' _ hagree
  refine ⟨fun c => Ffn.result m c, ?_, ?_⟩
  · refine (θ_run Cert.FfnIdeal.defs _ _).mono (fun r h c => ?_) (Cert.FfnIdeal.Value.run_blocks (F := Ideal) m g)
    obtain ⟨h0, hr⟩ := h c
    exact ⟨h0.trans (Ffn.final m c), hr⟩
  · refine (θ_run Cert.FfnReferenceIdeal.defs _ _).mono (fun r h c => ?_) (Cert.FfnReferenceIdeal.Value.run (F := Ideal) m' g')
    obtain ⟨h0, hr⟩ := h c
    refine ⟨h0.trans ((Ffn.reference_eq m' c).trans ?_), hr⟩
    obtain ⟨e0, e1, e2, e3, e4, e5, e6, e7, e8⟩ := hagree c
    rw [e0, e1, e2, e3, e4, e5, e6, e7, e8]

/-- Everything the certificate states. -/
theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts,
  Cert.Ffn.Gen.facts, Cert.FfnIdeal.Gen.facts, Cert.FfnReferenceIdeal.Gen.facts,
  Cert.Rwkv.Gen.facts, Cert.RwkvIdeal.Gen.facts,
  fun m ρ _ => Cert.Kernel.Gen.frame m ρ, fun m ρ _ => Cert.KernelIdeal.Gen.frame m ρ, fun m ρ _ =>
  (θ_run Cert.ReferenceIdeal.defs _ _).mono
    (fun r h => ⟨fun c => (h c).2, sem_eq_zero_of_no_sems (by decide) r.2⟩)
    (Cert.ReferenceIdeal.Value.run (F := Ideal) m ρ),
  fun m ρ _ => Cert.Proj.Gen.frame m ρ, fun m ρ _ => Cert.ProjIdeal.Gen.frame m ρ, fun m ρ _ =>
  (θ_run Cert.ProjReferenceIdeal.defs _ _).mono
    (fun r h => ⟨fun c => (h c).2.2, sem_eq_zero_of_no_sems (by decide) r.2⟩)
    (Cert.ProjReferenceIdeal.Value.run (F := Ideal) m ρ),
  fun m ρ _ => Cert.Ffn.Gen.frame m ρ, fun m ρ _ => Cert.FfnIdeal.Gen.frame m ρ, fun m ρ _ =>
  (θ_run Cert.FfnReferenceIdeal.defs _ _).mono
    (fun r h => ⟨fun c => (h c).2, sem_eq_zero_of_no_sems (by decide) r.2⟩)
    (Cert.FfnReferenceIdeal.Value.run (F := Ideal) m ρ),
  fun m ρ _ => Cert.Rwkv.Gen.frame m ρ, fun m ρ _ => Cert.RwkvIdeal.Gen.frame m ρ,
  trivial, recurrence_equal, trivial, projection_equal, trivial, stage_equal, trivial⟩

end Cert.Proof

end
